-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![4096, 512]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S12x64x512 : Shape := ⟨3, ![12, 64, 512]⟩
abbrev S7x64x512 : Shape := ⟨3, ![7, 64, 512]⟩
abbrev S6x64x512 : Shape := ⟨3, ![6, 64, 512]⟩
abbrev S12 : Shape := ⟨1, ![12]⟩
abbrev S7 : Shape := ⟨1, ![7]⟩
abbrev S3 : Shape := ⟨1, ![3]⟩
abbrev S_ : Shape := ⟨0, ![]⟩
abbrev S64x512 : Shape := ⟨2, ![64, 512]⟩
abbrev S1x64x512 : Shape := ⟨3, ![1, 64, 512]⟩
abbrev S1 : Shape := ⟨1, ![1]⟩

abbrev nBuf : Space → Nat
  | .hbm => 2
  | .vmem => 7
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .local _ .vmem, ⟨0, _⟩ => ⟨S2048x512, .bf16⟩
  | .local _ .vmem, ⟨1, _⟩ => ⟨S2048x512, .bf16⟩
  | .local _ .vmem, ⟨2, _⟩ => ⟨S12x64x512, .bf16⟩
  | .local _ .vmem, ⟨3, _⟩ => ⟨S12x64x512, .bf16⟩
  | .local _ .vmem, ⟨4, _⟩ => ⟨S7x64x512, .bf16⟩
  | .local _ .vmem, ⟨5, _⟩ => ⟨S7x64x512, .bf16⟩
  | .local _ .vmem, ⟨6, _⟩ => ⟨S6x64x512, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_19 : BitVec 32 := 8#32
  let v32 : BitVec 32 := Scalar.muli v10 c8_i32_19
  let v33 : BitVec 32 := Scalar.addi c0_i32 v32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_20 : BitVec 32 := 4#32
  let v34 : BitVec 32 := Scalar.muli v5 c4_i32_20
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v36 : BitVec 32 := Scalar.muli v8 c1_i32_21
  let v37 : BitVec 32 := Scalar.addi v35 v36
  v37.toNat
def k0_dev2 (d0 : Dev nD) : Nat :=
  let c0_i32_24 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_23 : BitVec 32 := 8#32
  let v38 : BitVec 32 := Scalar.muli v2 c8_i32_23
  let v39 : BitVec 32 := Scalar.addi c0_i32_24 v38
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_25 : BitVec 32 := 4#32
  let v40 : BitVec 32 := Scalar.muli v11 c4_i32_25
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v42 : BitVec 32 := Scalar.muli v8 c1_i32_26
  let v43 : BitVec 32 := Scalar.addi v41 v42
  v43.toNat
def k0_dev3 (d0 : Dev nD) : Nat :=
  let c0_i32_29 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_28 : BitVec 32 := 8#32
  let v44 : BitVec 32 := Scalar.muli v2 c8_i32_28
  let v45 : BitVec 32 := Scalar.addi c0_i32_29 v44
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_30 : BitVec 32 := 4#32
  let v46 : BitVec 32 := Scalar.muli v5 c4_i32_30
  let v47 : BitVec 32 := Scalar.addi v45 v46
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_31 : BitVec 32 := 1#32
  let v48 : BitVec 32 := Scalar.muli v14 c1_i32_31
  let v49 : BitVec 32 := Scalar.addi v47 v48
  v49.toNat
def k0_off1 (d0 : Dev nD) (c0_i32_32 : BitVec 32) : Fin 2 → Nat :=
  let c2_i32_7 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v15 : BitVec 32 := Scalar.muli c2_i32_7 v9
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v16 : BitVec 32 := Scalar.addi v15 v5
  let c512_i32 : BitVec 32 := 512#32
  let v17 : BitVec 32 := Scalar.muli v16 c512_i32
  let v50 : BitVec 32 := Scalar.addi v17 c0_i32_32
  let v51 : Index := Scalar.indexCast v50
  let c0 : Index := 0#32
  ![v51.toNat, 0]
def k0_dev4 (d0 : Dev nD) : Nat :=
  let c0_i32_41 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_40 : BitVec 32 := 8#32
  let v57 : BitVec 32 := Scalar.muli v10 c8_i32_40
  let v58 : BitVec 32 := Scalar.addi c0_i32_41 v57
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_42 : BitVec 32 := 4#32
  let v59 : BitVec 32 := Scalar.muli v5 c4_i32_42
  let v60 : BitVec 32 := Scalar.addi v58 v59
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v61 : BitVec 32 := Scalar.muli v8 c1_i32_43
  let v62 : BitVec 32 := Scalar.addi v60 v61
  v62.toNat
def k0_dev5 (d0 : Dev nD) : Nat :=
  let c0_i32_56 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_55 : BitVec 32 := 8#32
  let v78 : BitVec 32 := Scalar.muli v10 c8_i32_55
  let v79 : BitVec 32 := Scalar.addi c0_i32_56 v78
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_57 : BitVec 32 := 4#32
  let v80 : BitVec 32 := Scalar.muli v5 c4_i32_57
  let v81 : BitVec 32 := Scalar.addi v79 v80
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v82 : BitVec 32 := Scalar.muli v8 c1_i32_58
  let v83 : BitVec 32 := Scalar.addi v81 v82
  v83.toNat
def k0_dev6 (d0 : Dev nD) : Nat :=
  let c0_i32_71 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_70 : BitVec 32 := 8#32
  let v99 : BitVec 32 := Scalar.muli v10 c8_i32_70
  let v100 : BitVec 32 := Scalar.addi c0_i32_71 v99
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_72 : BitVec 32 := 4#32
  let v101 : BitVec 32 := Scalar.muli v5 c4_i32_72
  let v102 : BitVec 32 := Scalar.addi v100 v101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_73 : BitVec 32 := 1#32
  let v103 : BitVec 32 := Scalar.muli v8 c1_i32_73
  let v104 : BitVec 32 := Scalar.addi v102 v103
  v104.toNat
def k0_dev7 (d0 : Dev nD) : Nat :=
  let c0_i32_86 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_85 : BitVec 32 := 8#32
  let v120 : BitVec 32 := Scalar.muli v10 c8_i32_85
  let v121 : BitVec 32 := Scalar.addi c0_i32_86 v120
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_87 : BitVec 32 := 4#32
  let v122 : BitVec 32 := Scalar.muli v5 c4_i32_87
  let v123 : BitVec 32 := Scalar.addi v121 v122
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_88 : BitVec 32 := 1#32
  let v124 : BitVec 32 := Scalar.muli v8 c1_i32_88
  let v125 : BitVec 32 := Scalar.addi v123 v124
  v125.toNat
def k0_dev8 (d0 : Dev nD) : Nat :=
  let c0_i32_101 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_100 : BitVec 32 := 8#32
  let v141 : BitVec 32 := Scalar.muli v10 c8_i32_100
  let v142 : BitVec 32 := Scalar.addi c0_i32_101 v141
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_102 : BitVec 32 := 4#32
  let v143 : BitVec 32 := Scalar.muli v5 c4_i32_102
  let v144 : BitVec 32 := Scalar.addi v142 v143
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v145 : BitVec 32 := Scalar.muli v8 c1_i32_103
  let v146 : BitVec 32 := Scalar.addi v144 v145
  v146.toNat
def k0_dev9 (d0 : Dev nD) : Nat :=
  let c0_i32_115 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_114 : BitVec 32 := 8#32
  let v162 : BitVec 32 := Scalar.muli v10 c8_i32_114
  let v163 : BitVec 32 := Scalar.addi c0_i32_115 v162
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_116 : BitVec 32 := 4#32
  let v164 : BitVec 32 := Scalar.muli v5 c4_i32_116
  let v165 : BitVec 32 := Scalar.addi v163 v164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_117 : BitVec 32 := 1#32
  let v166 : BitVec 32 := Scalar.muli v8 c1_i32_117
  let v167 : BitVec 32 := Scalar.addi v165 v166
  v167.toNat
def k0_dev10 (d0 : Dev nD) : Nat :=
  let c0_i32_129 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_128 : BitVec 32 := 8#32
  let v183 : BitVec 32 := Scalar.muli v10 c8_i32_128
  let v184 : BitVec 32 := Scalar.addi c0_i32_129 v183
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_130 : BitVec 32 := 4#32
  let v185 : BitVec 32 := Scalar.muli v5 c4_i32_130
  let v186 : BitVec 32 := Scalar.addi v184 v185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_131 : BitVec 32 := 1#32
  let v187 : BitVec 32 := Scalar.muli v8 c1_i32_131
  let v188 : BitVec 32 := Scalar.addi v186 v187
  v188.toNat
def k0_dev11 (d0 : Dev nD) : Nat :=
  let c0_i32_143 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_142 : BitVec 32 := 8#32
  let v204 : BitVec 32 := Scalar.muli v10 c8_i32_142
  let v205 : BitVec 32 := Scalar.addi c0_i32_143 v204
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_144 : BitVec 32 := 4#32
  let v206 : BitVec 32 := Scalar.muli v5 c4_i32_144
  let v207 : BitVec 32 := Scalar.addi v205 v206
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_145 : BitVec 32 := 1#32
  let v208 : BitVec 32 := Scalar.muli v8 c1_i32_145
  let v209 : BitVec 32 := Scalar.addi v207 v208
  v209.toNat
def k0_off2 (d0 : Dev nD) (c448_i32_150 : BitVec 32) : Fin 2 → Nat :=
  let c2_i32_8 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v18 : BitVec 32 := Scalar.muli c2_i32_8 v9
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c512_i32_10 : BitVec 32 := 512#32
  let v21 : BitVec 32 := Scalar.muli v20 c512_i32_10
  let v218 : BitVec 32 := Scalar.addi v21 c448_i32_150
  let v219 : Index := Scalar.indexCast v218
  let c0_151 : Index := 0#32
  ![v219.toNat, 0]
def k0_dev12 (d0 : Dev nD) : Nat :=
  let c0_i32_159 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_158 : BitVec 32 := 8#32
  let v225 : BitVec 32 := Scalar.muli v10 c8_i32_158
  let v226 : BitVec 32 := Scalar.addi c0_i32_159 v225
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_160 : BitVec 32 := 4#32
  let v227 : BitVec 32 := Scalar.muli v5 c4_i32_160
  let v228 : BitVec 32 := Scalar.addi v226 v227
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_161 : BitVec 32 := 1#32
  let v229 : BitVec 32 := Scalar.muli v8 c1_i32_161
  let v230 : BitVec 32 := Scalar.addi v228 v229
  v230.toNat
def k0_off3 (d0 : Dev nD) (c448_i32_166 : BitVec 32) : Fin 2 → Nat :=
  let c2_i32_12 : BitVec 32 := 2#32
  let c1_i32_11 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v22 : BitVec 32 := Scalar.subi c1_i32_11 v9
  let v23 : BitVec 32 := Scalar.muli c2_i32_12 v22
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.addi v23 v5
  let c512_i32_13 : BitVec 32 := 512#32
  let v25 : BitVec 32 := Scalar.muli v24 c512_i32_13
  let v239 : BitVec 32 := Scalar.addi v25 c448_i32_166
  let v240 : Index := Scalar.indexCast v239
  let c0_167 : Index := 0#32
  ![v240.toNat, 0]
def k0_dev13 (d0 : Dev nD) : Nat :=
  let c0_i32_174 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_173 : BitVec 32 := 8#32
  let v246 : BitVec 32 := Scalar.muli v10 c8_i32_173
  let v247 : BitVec 32 := Scalar.addi c0_i32_174 v246
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_175 : BitVec 32 := 4#32
  let v248 : BitVec 32 := Scalar.muli v5 c4_i32_175
  let v249 : BitVec 32 := Scalar.addi v247 v248
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_176 : BitVec 32 := 1#32
  let v250 : BitVec 32 := Scalar.muli v8 c1_i32_176
  let v251 : BitVec 32 := Scalar.addi v249 v250
  v251.toNat
def k0_off4 (d0 : Dev nD) (c384_i32_181 : BitVec 32) : Fin 2 → Nat :=
  let c2_i32_15 : BitVec 32 := 2#32
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v26 : BitVec 32 := Scalar.subi c1_i32_14 v9
  let v27 : BitVec 32 := Scalar.muli c2_i32_15 v26
  let c1_i32_16 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v28 : BitVec 32 := Scalar.subi c1_i32_16 v5
  let v29 : BitVec 32 := Scalar.addi v27 v28
  let c512_i32_17 : BitVec 32 := 512#32
  let v30 : BitVec 32 := Scalar.muli v29 c512_i32_17
  let v260 : BitVec 32 := Scalar.addi v30 c384_i32_181
  let v261 : Index := Scalar.indexCast v260
  let c0_182 : Index := 0#32
  ![v261.toNat, 0]
def k0_dev14 (d0 : Dev nD) : Nat :=
  let c0_i32_189 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_188 : BitVec 32 := 8#32
  let v267 : BitVec 32 := Scalar.muli v10 c8_i32_188
  let v268 : BitVec 32 := Scalar.addi c0_i32_189 v267
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_190 : BitVec 32 := 4#32
  let v269 : BitVec 32 := Scalar.muli v5 c4_i32_190
  let v270 : BitVec 32 := Scalar.addi v268 v269
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_191 : BitVec 32 := 1#32
  let v271 : BitVec 32 := Scalar.muli v8 c1_i32_191
  let v272 : BitVec 32 := Scalar.addi v270 v271
  v272.toNat
def k0_dev15 (d0 : Dev nD) : Nat :=
  let c0_i32_204 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_203 : BitVec 32 := 8#32
  let v288 : BitVec 32 := Scalar.muli v10 c8_i32_203
  let v289 : BitVec 32 := Scalar.addi c0_i32_204 v288
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_205 : BitVec 32 := 4#32
  let v290 : BitVec 32 := Scalar.muli v5 c4_i32_205
  let v291 : BitVec 32 := Scalar.addi v289 v290
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v292 : BitVec 32 := Scalar.muli v8 c1_i32_206
  let v293 : BitVec 32 := Scalar.addi v291 v292
  v293.toNat
def k0_dev16 (d0 : Dev nD) : Nat :=
  let c0_i32_228 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_227 : BitVec 32 := 8#32
  let v314 : BitVec 32 := Scalar.muli v2 c8_i32_227
  let v315 : BitVec 32 := Scalar.addi c0_i32_228 v314
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_229 : BitVec 32 := 4#32
  let v316 : BitVec 32 := Scalar.muli v11 c4_i32_229
  let v317 : BitVec 32 := Scalar.addi v315 v316
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_230 : BitVec 32 := 1#32
  let v318 : BitVec 32 := Scalar.muli v8 c1_i32_230
  let v319 : BitVec 32 := Scalar.addi v317 v318
  v319.toNat
def k0_dev17 (d0 : Dev nD) : Nat :=
  let c0_i32_240 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_239 : BitVec 32 := 8#32
  let v328 : BitVec 32 := Scalar.muli v2 c8_i32_239
  let v329 : BitVec 32 := Scalar.addi c0_i32_240 v328
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_241 : BitVec 32 := 4#32
  let v330 : BitVec 32 := Scalar.muli v5 c4_i32_241
  let v331 : BitVec 32 := Scalar.addi v329 v330
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_242 : BitVec 32 := 1#32
  let v332 : BitVec 32 := Scalar.muli v14 c1_i32_242
  let v333 : BitVec 32 := Scalar.addi v331 v332
  v333.toNat
def k0_dev18 (d0 : Dev nD) : Nat :=
  let c0_i32_272 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_271 : BitVec 32 := 8#32
  let v362 : BitVec 32 := Scalar.muli v2 c8_i32_271
  let v363 : BitVec 32 := Scalar.addi c0_i32_272 v362
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_273 : BitVec 32 := 4#32
  let v364 : BitVec 32 := Scalar.muli v11 c4_i32_273
  let v365 : BitVec 32 := Scalar.addi v363 v364
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_274 : BitVec 32 := 1#32
  let v366 : BitVec 32 := Scalar.muli v8 c1_i32_274
  let v367 : BitVec 32 := Scalar.addi v365 v366
  v367.toNat
def k0_dev19 (d0 : Dev nD) : Nat :=
  let c0_i32_284 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_283 : BitVec 32 := 8#32
  let v376 : BitVec 32 := Scalar.muli v2 c8_i32_283
  let v377 : BitVec 32 := Scalar.addi c0_i32_284 v376
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_285 : BitVec 32 := 4#32
  let v378 : BitVec 32 := Scalar.muli v5 c4_i32_285
  let v379 : BitVec 32 := Scalar.addi v377 v378
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_286 : BitVec 32 := 1#32
  let v380 : BitVec 32 := Scalar.muli v14 c1_i32_286
  let v381 : BitVec 32 := Scalar.addi v379 v380
  v381.toNat
def k0_dev20 (d0 : Dev nD) : Nat :=
  let c0_i32_316 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_315 : BitVec 32 := 8#32
  let v410 : BitVec 32 := Scalar.muli v2 c8_i32_315
  let v411 : BitVec 32 := Scalar.addi c0_i32_316 v410
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_317 : BitVec 32 := 4#32
  let v412 : BitVec 32 := Scalar.muli v11 c4_i32_317
  let v413 : BitVec 32 := Scalar.addi v411 v412
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_318 : BitVec 32 := 1#32
  let v414 : BitVec 32 := Scalar.muli v8 c1_i32_318
  let v415 : BitVec 32 := Scalar.addi v413 v414
  v415.toNat
def k0_dev21 (d0 : Dev nD) : Nat :=
  let c0_i32_328 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_327 : BitVec 32 := 8#32
  let v424 : BitVec 32 := Scalar.muli v2 c8_i32_327
  let v425 : BitVec 32 := Scalar.addi c0_i32_328 v424
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_329 : BitVec 32 := 4#32
  let v426 : BitVec 32 := Scalar.muli v5 c4_i32_329
  let v427 : BitVec 32 := Scalar.addi v425 v426
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_330 : BitVec 32 := 1#32
  let v428 : BitVec 32 := Scalar.muli v14 c1_i32_330
  let v429 : BitVec 32 := Scalar.addi v427 v428
  v429.toNat
def k0_dev22 (d0 : Dev nD) : Nat :=
  let c0_i32_360 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_359 : BitVec 32 := 8#32
  let v458 : BitVec 32 := Scalar.muli v2 c8_i32_359
  let v459 : BitVec 32 := Scalar.addi c0_i32_360 v458
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_361 : BitVec 32 := 4#32
  let v460 : BitVec 32 := Scalar.muli v11 c4_i32_361
  let v461 : BitVec 32 := Scalar.addi v459 v460
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_362 : BitVec 32 := 1#32
  let v462 : BitVec 32 := Scalar.muli v8 c1_i32_362
  let v463 : BitVec 32 := Scalar.addi v461 v462
  v463.toNat
def k0_dev23 (d0 : Dev nD) : Nat :=
  let c0_i32_372 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_371 : BitVec 32 := 8#32
  let v472 : BitVec 32 := Scalar.muli v2 c8_i32_371
  let v473 : BitVec 32 := Scalar.addi c0_i32_372 v472
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_373 : BitVec 32 := 4#32
  let v474 : BitVec 32 := Scalar.muli v5 c4_i32_373
  let v475 : BitVec 32 := Scalar.addi v473 v474
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_374 : BitVec 32 := 1#32
  let v476 : BitVec 32 := Scalar.muli v14 c1_i32_374
  let v477 : BitVec 32 := Scalar.addi v475 v476
  v477.toNat
def k0_dev24 (d0 : Dev nD) : Nat :=
  let c0_i32_404 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_403 : BitVec 32 := 8#32
  let v506 : BitVec 32 := Scalar.muli v2 c8_i32_403
  let v507 : BitVec 32 := Scalar.addi c0_i32_404 v506
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_405 : BitVec 32 := 4#32
  let v508 : BitVec 32 := Scalar.muli v11 c4_i32_405
  let v509 : BitVec 32 := Scalar.addi v507 v508
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_406 : BitVec 32 := 1#32
  let v510 : BitVec 32 := Scalar.muli v8 c1_i32_406
  let v511 : BitVec 32 := Scalar.addi v509 v510
  v511.toNat
def k0_dev25 (d0 : Dev nD) : Nat :=
  let c0_i32_416 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_415 : BitVec 32 := 8#32
  let v520 : BitVec 32 := Scalar.muli v2 c8_i32_415
  let v521 : BitVec 32 := Scalar.addi c0_i32_416 v520
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_417 : BitVec 32 := 4#32
  let v522 : BitVec 32 := Scalar.muli v5 c4_i32_417
  let v523 : BitVec 32 := Scalar.addi v521 v522
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_418 : BitVec 32 := 1#32
  let v524 : BitVec 32 := Scalar.muli v14 c1_i32_418
  let v525 : BitVec 32 := Scalar.addi v523 v524
  v525.toNat
def k0_dev26 (d0 : Dev nD) : Nat :=
  let c0_i32_448 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_447 : BitVec 32 := 8#32
  let v554 : BitVec 32 := Scalar.muli v2 c8_i32_447
  let v555 : BitVec 32 := Scalar.addi c0_i32_448 v554
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_449 : BitVec 32 := 4#32
  let v556 : BitVec 32 := Scalar.muli v11 c4_i32_449
  let v557 : BitVec 32 := Scalar.addi v555 v556
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_450 : BitVec 32 := 1#32
  let v558 : BitVec 32 := Scalar.muli v8 c1_i32_450
  let v559 : BitVec 32 := Scalar.addi v557 v558
  v559.toNat
def k0_dev27 (d0 : Dev nD) : Nat :=
  let c0_i32_460 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_459 : BitVec 32 := 8#32
  let v568 : BitVec 32 := Scalar.muli v2 c8_i32_459
  let v569 : BitVec 32 := Scalar.addi c0_i32_460 v568
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_461 : BitVec 32 := 4#32
  let v570 : BitVec 32 := Scalar.muli v5 c4_i32_461
  let v571 : BitVec 32 := Scalar.addi v569 v570
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_462 : BitVec 32 := 1#32
  let v572 : BitVec 32 := Scalar.muli v14 c1_i32_462
  let v573 : BitVec 32 := Scalar.addi v571 v572
  v573.toNat
def k0_dev28 (d0 : Dev nD) : Nat :=
  let c0_i32_492 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_491 : BitVec 32 := 8#32
  let v602 : BitVec 32 := Scalar.muli v2 c8_i32_491
  let v603 : BitVec 32 := Scalar.addi c0_i32_492 v602
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_493 : BitVec 32 := 4#32
  let v604 : BitVec 32 := Scalar.muli v11 c4_i32_493
  let v605 : BitVec 32 := Scalar.addi v603 v604
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_494 : BitVec 32 := 1#32
  let v606 : BitVec 32 := Scalar.muli v8 c1_i32_494
  let v607 : BitVec 32 := Scalar.addi v605 v606
  v607.toNat
def k0_dev29 (d0 : Dev nD) : Nat :=
  let c0_i32_504 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_503 : BitVec 32 := 8#32
  let v616 : BitVec 32 := Scalar.muli v2 c8_i32_503
  let v617 : BitVec 32 := Scalar.addi c0_i32_504 v616
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_505 : BitVec 32 := 4#32
  let v618 : BitVec 32 := Scalar.muli v5 c4_i32_505
  let v619 : BitVec 32 := Scalar.addi v617 v618
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_506 : BitVec 32 := 1#32
  let v620 : BitVec 32 := Scalar.muli v14 c1_i32_506
  let v621 : BitVec 32 := Scalar.addi v619 v620
  v621.toNat
def k0_dev30 (d0 : Dev nD) : Nat :=
  let c0_i32_536 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_535 : BitVec 32 := 8#32
  let v650 : BitVec 32 := Scalar.muli v2 c8_i32_535
  let v651 : BitVec 32 := Scalar.addi c0_i32_536 v650
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_537 : BitVec 32 := 4#32
  let v652 : BitVec 32 := Scalar.muli v11 c4_i32_537
  let v653 : BitVec 32 := Scalar.addi v651 v652
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_538 : BitVec 32 := 1#32
  let v654 : BitVec 32 := Scalar.muli v8 c1_i32_538
  let v655 : BitVec 32 := Scalar.addi v653 v654
  v655.toNat
def k0_dev31 (d0 : Dev nD) : Nat :=
  let c0_i32_567 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_566 : BitVec 32 := 8#32
  let v689 : BitVec 32 := Scalar.muli v2 c8_i32_566
  let v690 : BitVec 32 := Scalar.addi c0_i32_567 v689
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_568 : BitVec 32 := 4#32
  let v691 : BitVec 32 := Scalar.muli v5 c4_i32_568
  let v692 : BitVec 32 := Scalar.addi v690 v691
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_569 : BitVec 32 := 1#32
  let v693 : BitVec 32 := Scalar.muli v14 c1_i32_569
  let v694 : BitVec 32 := Scalar.addi v692 v693
  v694.toNat
def k0_dev32 (d0 : Dev nD) : Nat :=
  let c0_i32_598 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_597 : BitVec 32 := 8#32
  let v728 : BitVec 32 := Scalar.muli v2 c8_i32_597
  let v729 : BitVec 32 := Scalar.addi c0_i32_598 v728
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_599 : BitVec 32 := 4#32
  let v730 : BitVec 32 := Scalar.muli v11 c4_i32_599
  let v731 : BitVec 32 := Scalar.addi v729 v730
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_600 : BitVec 32 := 1#32
  let v732 : BitVec 32 := Scalar.muli v8 c1_i32_600
  let v733 : BitVec 32 := Scalar.addi v731 v732
  v733.toNat
def k0_dev33 (d0 : Dev nD) : Nat :=
  let c0_i32_629 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_628 : BitVec 32 := 8#32
  let v767 : BitVec 32 := Scalar.muli v2 c8_i32_628
  let v768 : BitVec 32 := Scalar.addi c0_i32_629 v767
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_630 : BitVec 32 := 4#32
  let v769 : BitVec 32 := Scalar.muli v5 c4_i32_630
  let v770 : BitVec 32 := Scalar.addi v768 v769
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_631 : BitVec 32 := 1#32
  let v771 : BitVec 32 := Scalar.muli v14 c1_i32_631
  let v772 : BitVec 32 := Scalar.addi v770 v771
  v772.toNat
def k0_dev34 (d0 : Dev nD) : Nat :=
  let c0_i32_660 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_659 : BitVec 32 := 8#32
  let v806 : BitVec 32 := Scalar.muli v2 c8_i32_659
  let v807 : BitVec 32 := Scalar.addi c0_i32_660 v806
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_661 : BitVec 32 := 4#32
  let v808 : BitVec 32 := Scalar.muli v11 c4_i32_661
  let v809 : BitVec 32 := Scalar.addi v807 v808
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_662 : BitVec 32 := 1#32
  let v810 : BitVec 32 := Scalar.muli v8 c1_i32_662
  let v811 : BitVec 32 := Scalar.addi v809 v810
  v811.toNat
def k0_dev35 (d0 : Dev nD) : Nat :=
  let c0_i32_691 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_690 : BitVec 32 := 8#32
  let v845 : BitVec 32 := Scalar.muli v2 c8_i32_690
  let v846 : BitVec 32 := Scalar.addi c0_i32_691 v845
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_692 : BitVec 32 := 4#32
  let v847 : BitVec 32 := Scalar.muli v5 c4_i32_692
  let v848 : BitVec 32 := Scalar.addi v846 v847
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_693 : BitVec 32 := 1#32
  let v849 : BitVec 32 := Scalar.muli v14 c1_i32_693
  let v850 : BitVec 32 := Scalar.addi v848 v849
  v850.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩
abbrev S2x2048x512 : Shape := ⟨3, ![2, 2048, 512]⟩
abbrev S_ : Shape := ⟨0, ![]⟩
abbrev S2048x512 : Shape := ⟨2, ![2048, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S2x2048x512, .bf16⟩
  | .hbm, ⟨2, _⟩ => ⟨S2x2048x512, .f32⟩
  | .hbm, ⟨3, _⟩ => ⟨S_, .f32⟩
  | .hbm, ⟨4, _⟩ => ⟨S2048x512, .f32⟩
  | .hbm, ⟨5, _⟩ => ⟨S2048x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Mesh.lean ====
/-
# The mesh, the transfers and their order

Sixteen devices in a 2 × 2 × 4 mesh, device `c = 8·x + 4·y + z`. A device exchanges with three others: the one across
the `x` axis (`across 0`), the one across the `y` axis (`across 1`) and its neighbour in the pair `z, z xor 1`
(`across 2`). Each device starts 32 copies of 64 rows and receives 32, named here by what they carry:

* `x i` — 12 blocks of the device's own array, across `x`;
* `y i`, `z i` — 7 blocks each, received across `x` and forwarded across `y` and across `z`;
* `yr i`, `zr i` — 3 blocks each, received across `z` and forwarded across `y`, and the other way round.

This module holds what is pure arithmetic: which block of rows each copy fills (`blk`), whose array the rows are of
(`origin`), and the orders in which copies are started, received and waited for again at their source.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Exchange

open Cert.KernelIdeal Cert.KernelIdeal.Gen
open Idealize.ShloMosaic Idealize.ShloMosaic.TcCoe

/-! ## Transfers and buffer slots -/

/-- The 32 copies a device starts, and the 32 it receives. -/
inductive Xfer where
  | x (i : Fin 12) | y (i : Fin 7) | z (i : Fin 7) | yr (i : Fin 3) | zr (i : Fin 3)
  deriving DecidableEq

/-- The 44 slots of 64 rows in the scratch buffers: 12 that the device fills itself, one per received copy. -/
inductive Slot where
  | sb (i : Fin 12) | rx (t : Xfer)
  deriving DecidableEq

open Xfer Slot

/-- The copies in the order a device starts them. -/
def sOrder : List Xfer :=
  [x 0, x 1, x 2, x 3, x 4, x 5, x 6, x 7, x 8, x 9, x 10, x 11,
   y 0, z 0, y 1, z 1, y 2, z 2, y 3, z 3, y 4, z 4, y 5, z 5, y 6, z 6,
   yr 0, zr 0, yr 1, zr 1, yr 2, zr 2]

/-- The copies in the order a device waits for their arrival, which is also the order it fills its result's rows in. -/
def rOrder : List Xfer :=
  [x 0, x 1, x 2, x 3, x 4, x 5, x 6, z 0, y 3, z 1, y 4, z 2, y 5, y 0, y 1, y 2, y 6, z 3, z 4, z 5, z 6,
   x 8, x 9, x 10, x 11, x 7, yr 0, yr 1, yr 2, zr 0, zr 1, zr 2]

/-- The copies in the order a device waits, at the end, for their source to be free again. -/
def dOrder : List Xfer :=
  [x 0, x 1, x 2, x 3, x 4, x 5, x 6, x 7, x 8, x 9, x 10, x 11,
   y 0, y 1, y 2, y 3, y 4, y 5, y 6, z 0, z 1, z 2, z 3, z 4, z 5, z 6,
   yr 0, yr 1, yr 2, zr 0, zr 1, zr 2]

/-- The copies are those of `dOrder`. -/
instance : Fintype Xfer where
  elems := ⟨dOrder, by decide⟩
  complete t := by
    cases t with
    | x i => revert i; decide
    | y i => revert i; decide
    | z i => revert i; decide
    | yr i => revert i; decide
    | zr i => revert i; decide

/-- The slots are the twelve filled ones and one per copy. -/
instance : Fintype Slot where
  elems := ⟨(List.finRange 12).map sb ++ dOrder.map rx, by decide +kernel⟩
  complete s := by
    cases s with
    | sb i => revert i; decide +kernel
    | rx t => revert t; decide +kernel

/-- When a copy is started: how many are started before it. -/
def sPos (t : Xfer) : ℕ := sOrder.idxOf t
/-- When a copy's arrival is waited for: how many arrivals are waited for before it. -/
def rPos (t : Xfer) : ℕ := rOrder.idxOf t
/-- When a copy's source is waited for: how many sources are waited for before it. -/
def dPos (t : Xfer) : ℕ := dOrder.idxOf t

/-- A place in the order of starts is below 32. -/
theorem sPos_lt (t : Xfer) : sPos t < 32 := by revert t; decide +kernel
/-- A place in the order of arrivals is below 32. -/
theorem rPos_lt (t : Xfer) : rPos t < 32 := by revert t; decide +kernel
/-- A place in the order of waits at the sources is below 32. -/
theorem dPos_lt (t : Xfer) : dPos t < 32 := by revert t; decide +kernel
/-- Different copies are started at different places. -/
theorem sPos_inj : Function.Injective sPos := by
  have h : ∀ t u : Xfer, sPos t = sPos u → t = u := by decide +kernel
  exact fun t u => h t u
/-- The arrivals of different copies are waited for at different places. -/
theorem rPos_inj : Function.Injective rPos := by
  have h : ∀ t u : Xfer, rPos t = rPos u → t = u := by decide +kernel
  exact fun t u => h t u
/-- The sources of different copies are waited for at different places. -/
theorem dPos_inj : Function.Injective dPos := by
  have h : ∀ t u : Xfer, dPos t = dPos u → t = u := by decide +kernel
  exact fun t u => h t u

/-- The slot a copy's source is. -/
def par : Xfer → Slot
  | x i => sb i
  | y i => rx (x (i.castLE (by decide)))
  | z i => rx (x (i.castLE (by decide)))
  | yr i => rx (z (i.castLE (by decide)))
  | zr i => rx (y ⟨3 + i.val, by omega⟩)

/-- The axis a copy crosses. -/
def dir : Xfer → Fin 3
  | x _ => 0 | y _ => 1 | z _ => 2 | yr _ => 1 | zr _ => 2

/-! ## Devices -/

/-- The device across axis 0 (`x`), across axis 1 (`y`), or next to `c` in its pair along `z`. -/
def across (d : Fin 3) (c : Dev nD) : Dev nD :=
  match d with
  | 0 => ⟨(c.val + 8) % 16, Nat.mod_lt _ (by decide)⟩
  | 1 => ⟨if c.val / 4 % 2 = 0 then (c.val + 4) % 16 else (c.val + 12) % 16, by split <;> exact Nat.mod_lt _ (by decide)⟩
  | 2 => ⟨if c.val % 2 = 0 then (c.val + 1) % 16 else (c.val + 15) % 16, by split <;> exact Nat.mod_lt _ (by decide)⟩

/-- Crossing an axis twice leads back. -/
theorem across_across (d : Fin 3) (c : Dev nD) : across d (across d c) = c := by revert d c; decide +kernel

/-- Different devices have different neighbours. -/
theorem across_inj (d : Fin 3) : Function.Injective (across d) := Function.Involutive.injective (f := across d) (across_across d)

/-- Crossing an axis permutes the devices. -/
def acrossE (d : Fin 3) : Dev nD ≃ Dev nD := ⟨across d, across d, across_across d, across_across d⟩

/-- The device whose array the rows of a received copy are of. -/
def origin (c : Dev nD) : Xfer → Dev nD
  | x _ => across 0 c
  | y _ => across 0 (across 1 c)
  | z _ => across 0 (across 2 c)
  | yr _ => across 0 (across 1 (across 2 c))
  | zr _ => across 0 (across 1 (across 2 c))

/-! ## Blocks of rows

The result's 32 blocks of 64 rows are four quarters of eight: the device's own quarter `main`, its `y` neighbour's, its
`z` neighbour's and the diagonal device's. -/

/-- The device's own quarter. -/
def mainQ (c : Dev nD) : ℕ := 2 * (c.val % 2) + c.val / 4 % 2
/-- The quarter of the device's neighbour along `y`. -/
def yQ (c : Dev nD) : ℕ := 2 * (c.val % 2) + (1 - c.val / 4 % 2)
/-- The quarter of the device's neighbour along `z`. -/
def zQ (c : Dev nD) : ℕ := 2 * (1 - c.val % 2) + c.val / 4 % 2
/-- The quarter of the device across both `y` and `z`. -/
def diagQ (c : Dev nD) : ℕ := 2 * (1 - c.val % 2) + (1 - c.val / 4 % 2)

/-- The number of the block, before it is known to be below 32. -/
def blkNat (c : Dev nD) : Xfer → ℕ
  | x i => if i.val < 8 then 8 * mainQ c + i.val else if i.val = 8 then 8 * yQ c + 7 else if i.val = 9 then 8 * zQ c + 7
      else 8 * diagQ c + (i.val - 4)
  | y i => 8 * yQ c + i.val
  | z i => 8 * zQ c + i.val
  | yr i => 8 * diagQ c + i.val
  | zr i => 8 * diagQ c + (3 + i.val)

/-- The number of a copy's block is below 32. -/
theorem blkNat_lt (c : Dev nD) (t : Xfer) : blkNat c t < 32 := by revert c t; decide +kernel

/-- The block of 64 rows a received copy carries. -/
def blk (c : Dev nD) (t : Xfer) : Fin 32 := ⟨blkNat c t, blkNat_lt c t⟩

/-- Different copies carry different blocks. -/
theorem blk_inj (c : Dev nD) : Function.Injective (blk c) := by
  have h : ∀ (c : Dev nD) (t u : Xfer), blk c t = blk c u → t = u := by decide +kernel
  exact fun t u => h c t u

/-- The 32 received copies carry the 32 blocks, each one once. -/
def blkE (c : Dev nD) : Xfer ≃ Fin 32 :=
  Equiv.ofBijective (blk c) ((Fintype.bijective_iff_injective_and_card _).mpr ⟨blk_inj c, by decide +kernel⟩)

/-- Whose rows, and which, a slot is to hold. -/
def slotDev (c : Dev nD) : Slot → Dev nD
  | sb _ => c
  | rx t => origin c t

/-- Which block of rows a slot is to hold. -/
def slotBlk (c : Dev nD) : Slot → Fin 32
  | sb i => blk c (x i)
  | rx t => blk c t

/-- What arrives is what left: the slot a copy fills at its target holds the rows its source slot holds. -/
theorem slot_sent (c : Dev nD) (t : Xfer) :
    slotDev (across (dir t) c) (rx t) = slotDev c (par t) ∧ slotBlk (across (dir t) c) (rx t) = slotBlk c (par t) := by
  revert c t; decide +kernel

/-! ## Where the kernel's rows start -/

/-- The first row and column of a block. -/
def rowOff (b : Fin 32) : Fin 2 → ℕ := ![64 * b.val, 0]

/-- A block of 64 rows lies inside the array. -/
theorem rowInb (b : Fin 32) : ∀ a, rowOff b a + S64x512.size a ≤ S2048x512.size a := by revert b; decide +kernel

/-- Where the body reads and writes the rows of its own quarter. -/
theorem off1_eq (c : Dev nD) (r : Fin 8) : k0_off1 c (BitVec.ofNat 32 (64 * r.val)) = rowOff (blk c (x (r.castLE (by decide)))) := by
  revert c r; decide +kernel

/-- Where it reads and writes the rows received from its `y` neighbour. -/
theorem off2_y (c : Dev nD) (r : Fin 7) : k0_off2 c (BitVec.ofNat 32 (64 * r.val)) = rowOff (blk c (y r)) := by
  revert c r; decide +kernel

/-- Where it reads and writes the rows received from its `z` neighbour. -/
theorem off3_z (c : Dev nD) (r : Fin 7) : k0_off3 c (BitVec.ofNat 32 (64 * r.val)) = rowOff (blk c (z r)) := by
  revert c r; decide +kernel

/-- The device across `x`, as the body computes it. -/
theorem dev4_eq (c : Dev nD) : (⟨k0_dev4 c, k0_dev4_lt c⟩ : Dev nD) = across 0 c := by revert c; decide +kernel

end Cert.Exchange

end
-- ==== Proof.Slots.lean ====
/-
# Slots, semaphores and contents

Which memref each slot is, which semaphores a copy uses, what every slot and every block of the result is to hold, and how
a slot is shared out between the copies that read it and the loads that read it meanwhile.
-/
module

public import proofs.«01_k».proof.Proof.Mesh

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Xfer Slot

variable {F : FTy → Type} [FloatOps F]

/-! ## The resource algebra: the pipeline library's part, and the exchange's rounds with duties `Fin 3` -/

/-- The exchange's own resources: rounds of at most three duties. -/
abbrev UB : Type := URounds (GSem nD τ sig) (Fin 3)
/-- The pipeline's resources and the exchange's. -/
abbrev UU : Type := UR sig nD τ × UB

local notation "𝕄" => MT nD τ sig Unit (Elt F) ℕ UU ℕ

/-- The pipeline's resources, as part of all. -/
abbrev EP : Emb (UR sig nD τ) (MT nD τ sig Unit (Elt F) ℕ UU ℕ) := embL
/-- The exchange's resources, as part of all. -/
abbrev ER : Emb UB (MT nD τ sig Unit (Elt F) ℕ UU ℕ) := embR

/-! ## The semaphores -/

/-- A semaphore of the exchange: a copy, and whether it is the one counted at its arrival (`true`) or at its source. -/
abbrev Key : Type := Xfer × Bool

/-- The DMA semaphore of a copy's source (`false`) or of its arrival (`true`). -/
def semOf : Key → DmaSem sig
  | (x i, false) => ⟨2 + i.val, Nat.lt_of_lt_of_le (Nat.add_lt_add_left i.isLt 2) (by decide)⟩
  | (x i, true) => ⟨14 + i.val, Nat.lt_of_lt_of_le (Nat.add_lt_add_left i.isLt 14) (by decide)⟩
  | (y i, false) => ⟨26 + i.val, Nat.lt_of_lt_of_le (Nat.add_lt_add_left i.isLt 26) (by decide)⟩
  | (y i, true) => ⟨33 + i.val, Nat.lt_of_lt_of_le (Nat.add_lt_add_left i.isLt 33) (by decide)⟩
  | (z i, false) => ⟨40 + i.val, Nat.lt_of_lt_of_le (Nat.add_lt_add_left i.isLt 40) (by decide)⟩
  | (z i, true) => ⟨47 + i.val, Nat.lt_of_lt_of_le (Nat.add_lt_add_left i.isLt 47) (by decide)⟩
  | (yr i, false) => ⟨54 + i.val, Nat.lt_of_lt_of_le (Nat.add_lt_add_left i.isLt 54) (by decide)⟩
  | (yr i, true) => ⟨57 + i.val, Nat.lt_of_lt_of_le (Nat.add_lt_add_left i.isLt 57) (by decide)⟩
  | (zr i, false) => ⟨60 + i.val, Nat.lt_of_lt_of_le (Nat.add_lt_add_left i.isLt 60) (by decide)⟩
  | (zr i, true) => ⟨63 + i.val, Nat.lt_of_lt_of_le (Nat.add_lt_add_left i.isLt 63) (by decide)⟩

/-- Different names are different semaphores. -/
theorem semOf_inj : Function.Injective semOf := by
  have h : ∀ k k' : Key, semOf k = semOf k' → k = k' := by decide +kernel
  exact fun k k' => h k k'

/-- No semaphore of a copy is one of the first two, which are the pipeline's. -/
theorem semOf_ge (k : Key) : 2 ≤ (semOf k).val := by revert k; decide +kernel

/-- The key of a DMA semaphore, if it is one of the exchange's. -/
def keyOf (s : DmaSem sig) : Option Key :=
  (dOrder.map (fun t => (t, false)) ++ dOrder.map (fun t => (t, true))).find? (fun k => semOf k = s)

/-- A named semaphore has its name. -/
theorem keyOf_semOf (k : Key) : keyOf (semOf k) = some k := by revert k; decide +kernel

/-- What has a name is the semaphore of that name. -/
theorem semOf_keyOf (s : DmaSem sig) (k : Key) (h : keyOf s = some k) : semOf k = s := by
  have := List.find?_some h
  exact of_decide_eq_true this

/-- The runtime's barrier semaphore. -/
abbrev barS : Sem sig := (SemArray.scalar (sig.barrier 0 rfl) : Sems sig S_).sem

/-- A device's barrier. -/
abbrev barCell (c : Dev nD) : GSem nD τ sig := ((c : Thread nD τ), .reg barS)
/-- A device's semaphore of a copy. -/
abbrev cell (c : Dev nD) (k : Key) : GSem nD τ sig := ((c : Thread nD τ), .dma (semOf k))

/-! ## The slots' memrefs -/

/-- Each slot lies inside a buffer of twelve. -/
theorem inb12 (i : Fin 12) : ∀ a, (![i.val, 0, 0] : Fin 3 → ℕ) a + S1x64x512.size a ≤ S12x64x512.size a := by revert i; decide +kernel
/-- Each slot lies inside a buffer of seven. -/
theorem inb7 (i : Fin 7) : ∀ a, (![i.val, 0, 0] : Fin 3 → ℕ) a + S1x64x512.size a ≤ S7x64x512.size a := by revert i; decide +kernel
/-- Each slot lies inside a buffer of six. -/
theorem inb6 (i : Fin 6) : ∀ a, (![i.val, 0, 0] : Fin 3 → ℕ) a + S1x64x512.size a ≤ S6x64x512.size a := by revert i; decide +kernel

/-- One slot of a buffer with 12, 7 or 6 of them. -/
abbrev of12 (b : Memref sig .tc .vmem S12x64x512 .bf16) (i : Fin 12) : Memref sig .tc .vmem S64x512 .bf16 :=
  (b.slice (Rect.unit (s := S12x64x512) ![i.val, 0, 0] S1x64x512.size (inb12 i)) (fun _ => rfl)).squeeze S64x512 squeezes_S1x64x512_S64x512
/-- Slot `i` of a buffer of seven. -/
abbrev of7 (b : Memref sig .tc .vmem S7x64x512 .bf16) (i : Fin 7) : Memref sig .tc .vmem S64x512 .bf16 :=
  (b.slice (Rect.unit (s := S7x64x512) ![i.val, 0, 0] S1x64x512.size (inb7 i)) (fun _ => rfl)).squeeze S64x512 squeezes_S1x64x512_S64x512
/-- Slot `i` of a buffer of six. -/
abbrev of6 (b : Memref sig .tc .vmem S6x64x512 .bf16) (i : Fin 6) : Memref sig .tc .vmem S64x512 .bf16 :=
  (b.slice (Rect.unit (s := S6x64x512) ![i.val, 0, 0] S1x64x512.size (inb6 i)) (fun _ => rfl)).squeeze S64x512 squeezes_S1x64x512_S64x512

/-- Where a slot lies. -/
def slotM : Slot → Memref sig .tc .vmem S64x512 .bf16
  | sb i => of12 (Memref.whole cc0_scratch0) i
  | rx (x i) => of12 (Memref.whole cc0_scratch1) i
  | rx (y i) => of7 (Memref.whole cc0_scratch2) i
  | rx (z i) => of7 (Memref.whole cc0_scratch3) i
  | rx (yr i) => of6 (Memref.whole cc0_scratch4) ⟨i.val, by omega⟩
  | rx (zr i) => of6 (Memref.whole cc0_scratch4) ⟨3 + i.val, by omega⟩

/-- What one copy counts on its semaphores. -/
abbrev N : ℕ := (of12 (Memref.whole cc0_scratch0) 0).view.dmaCredit
/-- The amount a copy counts is not zero. -/
theorem N_pos : 0 < N := View.dmaCredit_pos _ (by decide)

/-- Every slot's copy counts the same. -/
theorem credit_slot (s : Slot) : (slotM s).view.dmaCredit = N := by
  cases s with
  | sb i => rfl
  | rx t => cases t <;> rfl

/-- A block of 64 rows of the kernel's argument or result. -/
abbrev rowRect (b : Fin 32) : Rect S2048x512 := Rect.unit (s := S2048x512) (rowOff b) S64x512.size (rowInb b)

/-! ## The contents -/

/-- Block `b` of an array's rows. -/
def rowsOf {α : Type} (X : S2048x512.Idx → α) (b : Fin 32) : S64x512.Idx → α := fun i => X ((rowRect b).emb i)

/-- Every device's array. -/
abbrev Arrays (F : FTy → Type) : Type := Dev nD → S2048x512.Idx → Elt F .bf16

variable (X : Arrays F)

/-- What a slot holds once it is filled. -/
def slotVal (c : Dev nD) (s : Slot) : S64x512.Idx → Elt F .bf16 := rowsOf (X (slotDev c s)) (slotBlk c s)

omit [FloatOps F] in
/-- What a copy carries is what its receiver's slot is to hold. -/
theorem slotVal_sent (c : Dev nD) (t : Xfer) : slotVal X (across (dir t) c) (rx t) = slotVal X c (par t) := by
  unfold slotVal; rw [(slot_sent c t).1, (slot_sent c t).2]

/-- The block of the result that is computed when copy `t` has arrived: the device's own rows plus the received rows — added
    in the arrays' format for the first eight blocks across `x`, in the wider one and rounded for the others. -/
def outVal (c : Dev nD) (t : Xfer) : FVec F S64x512 .bf16 :=
  let own : FVec F S64x512 .bf16 := rowsOf (X c) (blk c t)
  let got : FVec F S64x512 .bf16 := slotVal X c (rx t)
  if sPos t < 8 then addf own got
  else truncf .bf16 (addf (extf .f32 own bitsLt_bf16_f32) (extf .f32 got bitsLt_bf16_f32)) bitsLt_bf16_f32

/-- The whole result, its blocks glued. -/
def outAll (c : Dev nD) : S2048x512.Idx → Elt F .bf16 := fun i =>
  outVal X c ((blkE c).symm ⟨(i 0).val / 64, by have h := (i 0).isLt; change _ < 2048 at h; omega⟩)
    (fun a => match a with
      | ⟨0, _⟩ => ⟨(i 0).val % 64, Nat.mod_lt _ (by decide)⟩
      | ⟨1, _⟩ => ⟨(i 1).val, (i 1).isLt⟩)

/-! ## Owning at a share -/

omit [FloatOps F] in
/-- Owning at a share is owning at its two halves. -/
theorem owns_split (c : Dev nD) (M : Memref sig .tc .vmem S64x512 .bf16) (q : PosShare TreeShare)
    (V : S64x512.Idx → Elt F .bf16) :
    (owns (c : Thread nD τ) M q V : sProp 𝕄) ⊢ iprop(owns (c : Thread nD τ) M q.left V ∗ owns (c : Thread nD τ) M q.right V) := by
  unfold owns
  iintro ⟨%f, %hf, H⟩
  ihave H := (pointsTo_share q.mem_left_op_right).1 $$ H
  icases H with ⟨H₁, H₂⟩
  isplitl [H₁]
  · iexists f; isplitr; (· ipureintro; exact hf); iexact H₁
  · iexists f; isplitr; (· ipureintro; exact hf); iexact H₂

omit [FloatOps F] in
/-- The two halves of a share of a slot, owned with the same contents, are the share owned with these contents. -/
theorem owns_merge (c : Dev nD) (M : Memref sig .tc .vmem S64x512 .bf16) (q : PosShare TreeShare)
    (V : S64x512.Idx → Elt F .bf16) :
    iprop(owns (c : Thread nD τ) M q.left V ∗ owns (c : Thread nD τ) M q.right V) ⊢ (owns (c : Thread nD τ) M q V : sProp 𝕄) := by
  unfold owns
  iintro ⟨⟨%f, %hf, H⟩, ⟨%g, %hg, H'⟩⟩
  icombine H H' as H2
  ihave %hag := BI.Region.is_agree $$ H2
  icases H2 with ⟨H, H'⟩
  ihave H'' := (Entails.of_eq (pointsTo_congr (f := g) (g := f) fun i hi => ((hag i (Finset.mem_inter.mpr ⟨hi, hi⟩)).1).symm)) $$ H'
  iexists f; isplitr; (· ipureintro; exact hf)
  iapply (pointsTo_share q.mem_left_op_right).2
  isplitl [H]; · iexact H
  iexact H''

/-! ## How a slot is shared between the copies that read it

A slot is the source of no copy, of one, or of two (what arrived across `x` is forwarded across `y` and across `z`). Each
copy is lent its part for as long as it is in flight; the rest stays, so that the slot can be loaded meanwhile. -/

/-- The copies whose source a slot is. -/
def kids (s : Slot) : Finset Xfer := Finset.univ.filter (fun t => par t = s)

/-- The part lent to a copy, as a code: 1 for half, 2 and 3 for the quarters of that half. -/
def lendCode : Xfer → Fin 4
  | x _ => 1 | y _ => 2 | z _ => 3 | yr _ => 1 | zr _ => 1

/-- The share that copy `t` borrows of its source. -/
def lendShare (t : Xfer) : PosShare TreeShare :=
  match lendCode t with
  | 2 => fullShare.left.left
  | 3 => fullShare.left.right
  | _ => fullShare.left

/-- The part of a filled slot that stays. -/
def keepShare (s : Slot) : PosShare TreeShare := if kids s = ∅ then fullShare else fullShare.right

/-- A slot is the source of no copy, of one, or of two that borrow different shares. -/
theorem kids_shape : ∀ s : Slot, kids s = ∅ ∨ (∃ t, kids s = {t} ∧ lendCode t = 1)
    ∨ ∃ t u, t ≠ u ∧ kids s = {t, u} ∧ lendCode t = 2 ∧ lendCode u = 3 := by decide +kernel

/-- A copy is among those that have its source. -/
theorem kids_par (t : Xfer) : t ∈ kids (par t) := by simp [kids]
/-- A copy is among those of a slot just if the slot is its source. -/
theorem mem_kids {t : Xfer} {s : Slot} : t ∈ kids s ↔ par t = s := by simp [kids]

omit [FloatOps F] in
/-- A conjunction over two copies. -/
theorem bigSep_two {t u : Xfer} (h : t ≠ u) (Φ : Xfer → sProp 𝕄) : bigSep {t, u} Φ = iprop(Φ t ∗ Φ u) := by
  rw [bigSep_insert (by simpa using h), bigSep_singleton]; rfl

omit [FloatOps F] in
/-- A filled slot, shared out. -/
theorem share_out (c : Dev nD) (s : Slot) (V : S64x512.Idx → Elt F .bf16) :
    (owns (c : Thread nD τ) (slotM s) fullShare V : sProp 𝕄)
      ⊢ iprop(owns (c : Thread nD τ) (slotM s) (keepShare s) V ∗ bigSep (kids s) fun t => owns (c : Thread nD τ) (slotM s) (lendShare t) V) := by
  rcases kids_shape s with h | ⟨t, h, ht⟩ | ⟨t, u, htu, h, ht, hu⟩
  · unfold keepShare; rw [h, if_pos rfl, bigSep_empty]
    iintro H; isplitl [H]; · iexact H
    iempintro
  · unfold keepShare lendShare
    rw [h, if_neg (Finset.singleton_ne_empty t), bigSep_singleton, ht]
    iintro H
    ihave H := (owns_split c (slotM s) fullShare V) $$ H
    icases H with ⟨Hl, Hr⟩
    isplitl [Hr]; · iexact Hr
    iexact Hl
  · unfold keepShare lendShare
    rw [h, if_neg (Finset.insert_ne_empty t {u}), bigSep_two htu, ht, hu]
    iintro H
    ihave H := (owns_split c (slotM s) fullShare V) $$ H
    icases H with ⟨Hl, Hr⟩
    ihave H := (owns_split c (slotM s) fullShare.left V) $$ Hl
    icases H with ⟨Hll, Hlr⟩
    isplitl [Hr]; · iexact Hr
    isplitl [Hll]; · iexact Hll
    iexact Hlr

omit [FloatOps F] in
/-- The parts of a slot, put together again. -/
theorem share_in (c : Dev nD) (s : Slot) (V : S64x512.Idx → Elt F .bf16) :
    iprop(owns (c : Thread nD τ) (slotM s) (keepShare s) V ∗ bigSep (kids s) fun t => owns (c : Thread nD τ) (slotM s) (lendShare t) V)
      ⊢ (owns (c : Thread nD τ) (slotM s) fullShare V : sProp 𝕄) := by
  rcases kids_shape s with h | ⟨t, h, ht⟩ | ⟨t, u, htu, h, ht, hu⟩
  · unfold keepShare; rw [h, if_pos rfl, bigSep_empty]
    iintro ⟨H, -⟩; iexact H
  · unfold keepShare lendShare
    rw [h, if_neg (Finset.singleton_ne_empty t), bigSep_singleton, ht]
    iintro ⟨Hr, Hl⟩
    iapply (owns_merge c (slotM s) fullShare V)
    isplitl [Hl]; · iexact Hl
    iexact Hr
  · unfold keepShare lendShare
    rw [h, if_neg (Finset.insert_ne_empty t {u}), bigSep_two htu, ht, hu]
    iintro ⟨Hr, Hll, Hlr⟩
    iapply (owns_merge c (slotM s) fullShare V)
    isplitl [Hll Hlr]
    · iapply (owns_merge c (slotM s) fullShare.left V)
      isplitl [Hll]; · iexact Hll
      iexact Hlr
    iexact Hr

end Cert.Exchange

end
-- ==== Proof.Sched.lean ====
/-
# The schedule

Every semaphore of the exchange has one round. A device's barrier semaphore has three duties of one unit, one per
neighbour; neighbour `d` hands over with its unit the slots of its own that the waiting device will copy into. A copy's two
semaphores have one duty each, of the copy's size: at the source it hands back the part of the source slot that was lent,
at the target it hands over the slot, holding the rows that were sent.

Waits are ordered by levels: barriers below arrivals across `x`, those below the first forwarding, those below the second;
a device waits for an arrival only while all it still owes is further up.
-/
module

public import proofs.«01_k».proof.Proof.Slots

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Xfer Slot

variable {F : FTy → Type} [FloatOps F]

local notation "𝕄" => MT nD τ sig Unit (Elt F) ℕ UU ℕ

variable (X : Arrays F)

/-! ## What each duty hands over -/

/-- The slots of device `across d c` that `c` copies into, at any contents. -/
def barPay (c : Dev nD) (d : Fin 3) : sProp 𝕄 :=
  bigSep (Finset.univ.filter fun t => dir t = d) fun t => iprop(∃ v, owns (across d c : Thread nD τ) (slotM (rx t)) fullShare v)

/-- What is handed over at a copy's semaphores: at the source the share that was lent, at the arrival the filled slot. -/
def keyPay (c : Dev nD) : Key → sProp 𝕄
  | (t, false) => owns (c : Thread nD τ) (slotM (par t)) (lendShare t) (slotVal X c (par t))
  | (t, true) => owns (c : Thread nD τ) (slotM (rx t)) fullShare (slotVal X c (rx t))

omit [FloatOps F] in
/-- What is paid at a barrier can be kept in an invariant. -/
instance barPay_storable (c : Dev nD) (d : Fin 3) : BI.Storable (upEmb : UEmb _ 𝕄) (barPay (F := F) c d) := by
  unfold barPay; infer_instance
omit [FloatOps F] in
/-- What is paid at a copy's semaphores can be kept in an invariant. -/
instance keyPay_storable (c : Dev nD) (k : Key) : BI.Storable (upEmb : UEmb _ 𝕄) (keyPay X c k) := by
  obtain ⟨t, b⟩ := k; cases b <;> (unfold keyPay; infer_instance)

/-- The duties of a semaphore at round 0. -/
def dutiesOf : SemLoc sig → Finset (Fin 3)
  | .reg s => if s = barS then Finset.univ else ∅
  | .dma s => if (keyOf s).isSome then {0} else ∅

/-- How much one duty counts. -/
def amountAt : SemLoc sig → ℕ
  | .reg _ => 1
  | .dma _ => N

/-- What one duty hands over. -/
def payAt (c : Dev nD) (d : Fin 3) : SemLoc sig → sProp 𝕄
  | .reg _ => barPay c d
  | .dma s => match keyOf s with
    | some k => keyPay X c k
    | none => iprop(emp)

/-- The schedule: in round 0 three duties at a barrier, one at a copy's semaphore; nothing later and nothing elsewhere. -/
def sched : Rounds.Schedule (GSem nD τ sig) (Fin 3) 𝕄 where
  duties g r := if r = 0 ∧ g.1.2 = .tc then dutiesOf g.2 else ∅
  unitless _ := False
  amount g _ _ := amountAt g.2
  payload g _ d := payAt X g.1.1 d g.2
  amount_pos g _ _ _ := by
    cases g.2 with
    | reg s => exact Nat.one_pos
    | dma s => exact N_pos

/-- Everything the schedule pays can be kept in an invariant. -/
instance sched_payload_storable (g : GSem nD τ sig) (r : ℕ) (d : Fin 3) : BI.Storable (upEmb : UEmb _ 𝕄) ((sched X).payload g r d) := by
  show BI.Storable upEmb (payAt X g.1.1 d g.2)
  cases g.2 with
  | reg s => exact barPay_storable g.1.1 d
  | dma s =>
    show BI.Storable upEmb (match keyOf s with | some k => keyPay X g.1.1 k | none => iprop(emp))
    cases keyOf s with
    | none => infer_instance
    | some k => exact keyPay_storable X g.1.1 k

section Sched
variable (c : Dev nD)

omit [FloatOps F] in
/-- A barrier has three duties. -/
theorem duties_bar : (sched X).duties (barCell c) 0 = Finset.univ := by
  dsimp only [sched]; rw [if_pos ⟨rfl, rfl⟩]; rfl
omit [FloatOps F] in
/-- A copy's semaphore has one duty. -/
theorem duties_key (k : Key) : (sched X).duties (cell c k) 0 = {0} := by
  dsimp only [sched]; rw [if_pos ⟨rfl, rfl⟩]
  dsimp only [dutiesOf]; rw [keyOf_semOf]; rfl
omit [FloatOps F] in
/-- No semaphore has a duty after the first round. -/
theorem duties_later (g : GSem nD τ sig) : ∀ r, 1 ≤ r → (sched X).duties g r = ∅ :=
  fun r hr => if_neg fun h => absurd h.1 (by omega)
omit [FloatOps F] in
/-- A barrier's duty counts one. -/
theorem amount_bar (d : Fin 3) : (sched X).amount (barCell c) 0 d = 1 := rfl
omit [FloatOps F] in
/-- The duty at a copy's semaphore counts the copy's bytes. -/
theorem amount_key (k : Key) (d : Fin 3) : (sched X).amount (cell c k) 0 d = N := rfl
omit [FloatOps F] in
/-- What the schedule pays at a barrier. -/
theorem payload_bar (d : Fin 3) : (sched X).payload (barCell c) 0 d = barPay c d := rfl
omit [FloatOps F] in
/-- What the schedule pays at a copy's semaphore. -/
theorem payload_key (k : Key) (d : Fin 3) : (sched X).payload (cell c k) 0 d = keyPay X c k := by
  show (match keyOf (semOf k) with | some k => keyPay X c k | none => iprop(emp)) = _
  rw [keyOf_semOf]
omit [FloatOps F] in
/-- A barrier's round takes three units. -/
theorem expect_bar : (sched X).expect (barCell c) 0 = 3 := by
  unfold Schedule.expect Schedule.amountOf
  rw [duties_bar, Finset.sum_congr rfl fun d _ => amount_bar X c d]; rfl
omit [FloatOps F] in
/-- The round at a copy's semaphore takes the copy's amount. -/
theorem expect_key (k : Key) : (sched X).expect (cell c k) 0 = N := by
  unfold Schedule.expect Schedule.amountOf; rw [duties_key, Finset.sum_singleton, amount_key]
omit [FloatOps F] in
/-- All that a barrier's round hands over. -/
theorem rest_bar : bigSep ((sched X).duties (barCell c) 0 \ ∅) (fun d => (sched X).payload (barCell c) 0 d)
    = bigSep Finset.univ fun d => barPay (F := F) c d := by
  rw [Finset.sdiff_empty, duties_bar]; rfl
omit [FloatOps F] in
/-- All that the round at a copy's semaphore hands over. -/
theorem rest_key (k : Key) : bigSep ((sched X).duties (cell c k) 0 \ ∅) (fun d => (sched X).payload (cell c k) 0 d) = keyPay X c k := by
  rw [Finset.sdiff_empty, duties_key, bigSep_singleton, payload_key]

end Sched

/-! ## What a device owes, and the levels -/

/-- The arrivals a device still owes when it has started `n` copies. -/
def owed (c : Dev nD) (n : ℕ) : CellTallies nD τ sig Unit :=
  ∑ t ∈ Finset.univ.filter (fun t => n ≤ sPos t), tallyAt (cell (across (dir t) c) (t, true)) () N

/-- Those and the barrier units of the neighbours from `n` on. -/
def owedB (c : Dev nD) (n : ℕ) : CellTallies nD τ sig Unit :=
  owed c 0 + ∑ d ∈ Finset.univ.filter (fun d : Fin 3 => n ≤ d.val), tallyAt (barCell (across d c)) () 1

/-- Starting copy `t` pays its arrival. -/
theorem owed_step (c : Dev nD) (t : Xfer) :
    owed c (sPos t) = owed c (sPos t + 1) + tallyAt (cell (across (dir t) c) (t, true)) () N := by
  unfold owed
  rw [show Finset.univ.filter (fun u => sPos t ≤ sPos u) = insert t (Finset.univ.filter fun u => sPos t + 1 ≤ sPos u) from ?_,
    Finset.sum_insert (by simp), add_comm]
  ext u
  simp only [Finset.mem_filter, Finset.mem_univ, true_and, Finset.mem_insert]
  constructor
  · intro h
    by_cases hu : sPos u = sPos t
    · exact .inl (sPos_inj hu)
    · exact .inr (by omega)
  · rintro (rfl | h) <;> omega

/-- When all are started nothing is owed. -/
theorem owed_end (c : Dev nD) : owed c 32 = 0 := by
  unfold owed
  refine Finset.sum_eq_zero fun t ht => ?_
  have := sPos_lt t
  have := (Finset.mem_filter.mp ht).2
  omega

/-- Signalling a neighbour pays one unit at its barrier. -/
theorem owedB_step (c : Dev nD) (d : Fin 3) : owedB c d.val = owedB c (d.val + 1) + tallyAt (barCell (across d c)) () 1 := by
  unfold owedB
  rw [show Finset.univ.filter (fun u : Fin 3 => d.val ≤ u.val) = insert d (Finset.univ.filter fun u : Fin 3 => d.val + 1 ≤ u.val) from by
      revert d; decide +kernel,
    Finset.sum_insert (by simp), add_comm (tallyAt _ _ _), add_assoc]

/-- When all three are signalled only the copies are owed. -/
theorem owedB_end (c : Dev nD) : owedB c 3 = owed c 0 := by
  unfold owedB
  rw [show Finset.univ.filter (fun d : Fin 3 => 3 ≤ d.val) = ∅ from by decide, Finset.sum_empty, add_zero]

/-- How many copies the rows of a copy have been through before it. -/
def hop : Xfer → ℕ
  | x _ => 0 | y _ => 1 | z _ => 1 | yr _ => 2 | zr _ => 2

/-- The semaphores that have levels: a TensorCore's. -/
def L (g : GSem nD τ sig) : Finset Unit := if g.1.2 = .tc then {()} else ∅

/-- Barriers at 1, arrivals at 2 and up, everything else at 0. -/
def lv (g : GSem nD τ sig) (_ : Unit) : ℕ :=
  match g.2 with
  | .reg _ => 1
  | .dma s => match keyOf s with
    | some (t, true) => 2 + hop t
    | _ => 0

/-- A semaphore that is not a TensorCore's has no level. -/
theorem L_of_ne (g : GSem nD τ sig) (h : g.1.2 ≠ .tc) : L g = ∅ := if_neg h
/-- Every semaphore of a TensorCore has one. -/
theorem L_tc (c : Dev nD) (sm : SemLoc sig) : L ((c : Thread nD τ), sm) = {()} := if_pos rfl
/-- A barrier's level is 1. -/
theorem lv_bar (c : Dev nD) : lv (barCell c) () = 1 := rfl
/-- The level of an arrival is 2 and as many more as the rows have made hops. -/
theorem lv_recv (c : Dev nD) (t : Xfer) : lv (cell c (t, true)) () = 2 + hop t := by
  show (match keyOf (semOf (t, true)) with | some (t, true) => 2 + hop t | _ => 0) = _
  rw [keyOf_semOf]

/-- What is owed of the copies is owed at the arrival of one not yet started. -/
theorem owed_pos {c : Dev nD} {n : ℕ} {g : GSem nD τ sig} {u : Unit} (h : 0 < owed c n g u) :
    ∃ t, n ≤ sPos t ∧ g = cell (across (dir t) c) (t, true) := by
  unfold owed at h
  rw [Finset.sum_apply, Finsupp.finset_sum_apply] at h
  obtain ⟨t, ht, h⟩ := Finset.exists_ne_zero_of_sum_ne_zero (Nat.pos_iff_ne_zero.mp h)
  refine ⟨t, (Finset.mem_filter.mp ht).2, ?_⟩
  by_contra hn
  rw [tallyAt_apply, if_neg (fun h' => hn h'.1)] at h
  exact h rfl

/-- What a device owes at all is owed at an arrival or at a neighbour's barrier. -/
theorem owedB_pos {c : Dev nD} {n : ℕ} {g : GSem nD τ sig} {u : Unit} (h : 0 < owedB c n g u) :
    (∃ t, g = cell (across (dir t) c) (t, true)) ∨ ∃ d, g = barCell (across d c) := by
  unfold owedB at h
  rw [Pi.add_apply, Finsupp.add_apply] at h
  rcases Nat.add_pos_iff_pos_or_pos.mp h with h | h
  · obtain ⟨t, -, ht⟩ := owed_pos h; exact .inl ⟨t, ht⟩
  · rw [Finset.sum_apply, Finsupp.finset_sum_apply] at h
    obtain ⟨d, -, h⟩ := Finset.exists_ne_zero_of_sum_ne_zero (Nat.pos_iff_ne_zero.mp h)
    refine .inr ⟨d, ?_⟩
    by_contra hn
    rw [tallyAt_apply, if_neg (fun h' => hn h'.1)] at h
    exact h rfl

omit [FloatOps F] in
/-- A wait is allowed below everything owed. -/
theorem mayWait_of (c : Dev nD) (sm : SemLoc sig) (O : CellTallies nD τ sig Unit)
    (h : ∀ g u, 0 < O g u → g.1.2 = .tc ∧ lv ((c : Thread nD τ), sm) () < lv g u) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

omit [FloatOps F] in
/-- An arrival may be waited for while all copies not yet started go further. -/
theorem mayWait_recv (c : Dev nD) (t : Xfer) (n : ℕ) (h : ∀ u, n ≤ sPos u → hop t < hop u) :
    (levAts L lv : sProp 𝕄) ⊢ MayWait (c : Thread nD τ) (.dma (semOf (t, true))) () (owed c n) :=
  mayWait_of c _ _ fun g u hg => by
    obtain ⟨v, hv, rfl⟩ := owed_pos hg
    refine ⟨rfl, ?_⟩
    rw [show lv ((c : Thread nD τ), .dma (semOf (t, true))) () = 2 + hop t from lv_recv c t, lv_recv]
    exact Nat.add_lt_add_left (h v hv) 2

omit [FloatOps F] in
/-- A device may wait at its barrier while it owes its copies. -/
theorem mayWait_bar (c : Dev nD) : (levAts L lv : sProp 𝕄) ⊢ MayWait (c : Thread nD τ) (.reg barS) () (owed c 0) :=
  mayWait_of c _ _ fun g u hg => by
    obtain ⟨v, hv, rfl⟩ := owed_pos hg
    refine ⟨rfl, ?_⟩
    rw [lv_recv]; show 1 < _; omega

omit [FloatOps F] in
/-- A semaphore at level 0 may be waited for whatever is owed at launch. -/
theorem mayWait_stage (c : Dev nD) (s : DmaSem sig) (hs : keyOf s = none) (O : CellTallies nD τ sig Unit) (hO : O = owedB c 0 ∨ O = 0) :
    (levAts L lv : sProp 𝕄) ⊢ MayWait (c : Thread nD τ) (.dma s) () O := by
  have h0 : lv ((c : Thread nD τ), .dma s) () = 0 := by
    show (match keyOf s with | some (t, true) => 2 + hop t | _ => 0) = _
    rw [hs]
  refine mayWait_of c _ _ fun g u hg => ?_
  rw [h0]
  rcases hO with rfl | rfl
  · rcases owedB_pos hg with ⟨t, rfl⟩ | ⟨d, rfl⟩
    · refine ⟨rfl, ?_⟩; rw [lv_recv]; omega
    · exact ⟨rfl, Nat.one_pos⟩
  · exact absurd hg (Nat.lt_irrefl 0)

end Cert.Exchange

end
-- ==== Proof.State.lean ====
/-
# A device's state, and what each operation does to it

Where a device is in its run is five counts: how many slots it has filled itself, how many copies it has started, how many
it has received, how many sources it has waited for, and how many blocks of its result it has written. The state at those
counts says what the device holds; each lemma below is one operation of the kernel, from one state to the next.
-/
module

public import proofs.«01_k».proof.Proof.Sched
public import Idealize.ShloMosaic.Lib.Pipeline.Value

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Xfer Slot

variable {F : FTy → Type} [FloatOps F]

local notation "𝕄" => MT nD τ sig Unit (Elt F) ℕ UU ℕ

variable (X : Arrays F)

/-! ## What all devices share -/

/-- The exchange's semaphores: a device's barrier (`none`) and its 64 DMA semaphores. -/
def kcell : Dev nD × Option Key → GSem nD τ sig
  | (c, none) => barCell c
  | (c, some k) => cell c k

/-- Every semaphore's invariant, under the names `K`, and that its first round is reached. -/
def recs (K : Dev nD × Option Key → ℕ) : sProp 𝕄 :=
  bigSep Finset.univ fun ck => iprop(cellInv ER (sched X) (K ck) (kcell ck) ∗ reached ER (kcell ck) 0)

/-- Those and the levels. -/
def env (K : Dev nD × Option Key → ℕ) : sProp 𝕄 := iprop(recs X K ∗ levAts L lv)

/-- The invariants and levels may be used any number of times. -/
instance env_persistent (K : Dev nD × Option Key → ℕ) : BI.Persistent (env X K) := by unfold env recs; infer_instance

omit [FloatOps F] in
/-- One semaphore's invariant, out of all. -/
theorem rec_at (K : Dev nD × Option Key → ℕ) (ck : Dev nD × Option Key) :
    recs X K ⊢ iprop(cellInv ER (sched X) (K ck) (kcell ck) ∗ reached ER (kcell ck) 0) :=
  bigSep_elim (Finset.mem_univ ck)

omit [FloatOps F] in
/-- The invariant of a copy's semaphore. -/
theorem env_cell (K : Dev nD × Option Key → ℕ) (c : Dev nD) (k : Key) :
    env X K ⊢ iprop(cellInv ER (sched X) (K (c, some k)) (cell c k) ∗ reached ER (cell c k) 0) := by
  unfold env; iintro ⟨H, -⟩; iapply (rec_at X K (c, some k)); iexact H

omit [FloatOps F] in
/-- The invariant of a barrier. -/
theorem env_bar (K : Dev nD × Option Key → ℕ) (c : Dev nD) :
    env X K ⊢ iprop(cellInv ER (sched X) (K (c, none)) (barCell c) ∗ reached ER (barCell c) 0) := by
  unfold env; iintro ⟨H, -⟩; iapply (rec_at X K (c, none)); iexact H

omit [FloatOps F] in
/-- The levels of all semaphores. -/
theorem env_lev (K : Dev nD × Option Key → ℕ) : env X K ⊢ (levAts L lv : sProp 𝕄) := by
  unfold env; iintro ⟨-, H⟩; iexact H

/-! ## The state -/

/-- The target slot of a copy, at any contents. -/
abbrev target (c : Dev nD) (t : Xfer) : sProp 𝕄 := iprop(∃ v, owns (across (dir t) c : Thread nD τ) (slotM (rx t)) fullShare v)

/-- A copy before it starts; after that, until its source is waited for; and then. -/
def sendPart (c : Dev nD) (na nd : ℕ) (t : Xfer) : sProp 𝕄 :=
  if na ≤ sPos t then
    iprop(target c t ∗ dutyTok ER (cell (across (dir t) c) (t, true)) 0 0 ∗ dutyTok ER (cell c (t, false)) 0 0
      ∗ atPos ER (cell c (t, false)) 0 ∅ 0)
  else if nd ≤ dPos t then iprop(cred (tallyAt (cell c (t, false)) () N) ∗ atPos ER (cell c (t, false)) 0 ∅ 0)
  else semVal (cell c (t, false)) 0

/-- A copy to this device before it is waited for, and after. -/
def recvPart (c : Dev nD) (nr : ℕ) (t : Xfer) : sProp 𝕄 :=
  if nr ≤ rPos t then iprop(cred (tallyAt (cell c (t, true)) () N) ∗ atPos ER (cell c (t, true)) 0 ∅ 0)
  else semVal (cell c (t, true)) 0

/-- A slot is filled. -/
def ready (ns nr : ℕ) : Slot → Prop
  | sb i => i.val < ns
  | rx t => rPos t < nr

/-- Whether a slot is filled can be decided. -/
instance (ns nr : ℕ) (s : Slot) : Decidable (ready ns nr s) := by
  cases s <;> (unfold ready; infer_instance)

/-- A copy is started and its source is not waited for. -/
def away (na nd : ℕ) (t : Xfer) : Prop := sPos t < na ∧ nd ≤ dPos t

/-- Whether a copy is under way can be decided. -/
instance (na nd : ℕ) (t : Xfer) : Decidable (away na nd t) := by unfold away; infer_instance

/-- A slot, or what stays of it once it is filled; a slot that is to be received into is elsewhere until then. -/
def keepPart (c : Dev nD) (ns nr : ℕ) (s : Slot) : sProp 𝕄 :=
  if ready ns nr s then owns (c : Thread nD τ) (slotM s) (keepShare s) (slotVal X c s)
  else match s with
    | sb i => iprop(∃ v, owns (c : Thread nD τ) (slotM (sb i)) fullShare v)
    | rx _ => iprop(emp)

/-- The part of its source that a copy is lent, while the device has it. -/
def lendPart (c : Dev nD) (ns na nr nd : ℕ) (t : Xfer) : sProp 𝕄 :=
  if ready ns nr (par t) ∧ ¬ away na nd t then owns (c : Thread nD τ) (slotM (par t)) (lendShare t) (slotVal X c (par t)) else iprop(emp)

/-- The staged argument. -/
abbrev xM : Memref sig .tc .vmem S2048x512 .bf16 := Memref.whole cc0_stg0_0
/-- The staged result. -/
abbrev oM : Memref sig .tc .vmem S2048x512 .bf16 := Memref.whole cc0_stg1_0

/-- A block of the result's rows. -/
abbrev outM (b : Fin 32) : Memref sig .tc .vmem S64x512 .bf16 := oM.slice (rowRect b) (fun _ => rfl)

/-- A block of the result: with its value once it is written, with some contents before. -/
def outPart (c : Dev nD) (nw : ℕ) (t : Xfer) : sProp 𝕄 :=
  if rPos t < nw then owns (c : Thread nD τ) (outM (blk c t)) fullShare (outVal X c t)
  else iprop(∃ v, owns (c : Thread nD τ) (outM (blk c t)) fullShare v)

/-- The device's own array, as the kernel holds it. -/
abbrev xPts (c : Dev nD) : sProp 𝕄 := ((c : Thread nD τ).loc cc0_stg0_0) ↦{fullShare} (X c)

/-- The state of device `c` at the counts; its barrier has been waited for. -/
def St (K : Dev nD × Option Key → ℕ) (c : Dev nD) (ns na nr nd nw : ℕ) : sProp 𝕄 :=
  iprop(env X K ∗ (∃ W, owes (c : Thread nD τ) (owed c na) W)
    ∗ bigSep Finset.univ (sendPart c na nd)
    ∗ bigSep Finset.univ (recvPart c nr)
    ∗ bigSep Finset.univ (keepPart X c ns nr)
    ∗ bigSep Finset.univ (lendPart X c ns na nr nd)
    ∗ bigSep Finset.univ (outPart X c nw)
    ∗ xPts X c ∗ semVal (barCell c) 0)

omit [FloatOps F] in
set_option maxRecDepth 100000 in
/-- An arrival may be waited for, from what is shared. -/
theorem env_recv (K : Dev nD × Option Key → ℕ) (c : Dev nD) (t : Xfer) (n : ℕ) (h : ∀ u, n ≤ sPos u → hop t < hop u) :
    env X K ⊢ (MayWait (c : Thread nD τ) (.dma (semOf (t, true))) () (owed c n) : sProp 𝕄) :=
  (env_lev X K).trans (mayWait_recv c t n h)

/-! ## Replacing parts -/

omit [FloatOps F] in
/-- One conjunct out, and another in at its place. -/
theorem bigSep_swap {A : Type} [Fintype A] [DecidableEq A] (t : A) {P Q : A → sProp 𝕄} (h : ∀ u, u ≠ t → P u = Q u) :
    bigSep Finset.univ P ⊢ iprop(P t ∗ (Q t -∗ bigSep Finset.univ Q)) := by
  rw [bigSep_univ_at P t, bigSep_univ_at Q t,
    bigSep_congr (s := Finset.univ.erase t) (Φ := P) (Ψ := Q) fun u hu => h u (Finset.ne_of_mem_erase hu)]
  iintro ⟨H, Hr⟩
  isplitl [H]; · iexact H
  iintro H
  isplitl [H]; · iexact H
  iexact Hr

omit [FloatOps F] in
/-- Conjuncts that were empty, filled in. -/
theorem bigSep_fill {A : Type} [Fintype A] [DecidableEq A] (s : Finset A) {P Q : A → sProp 𝕄} (h : ∀ u, u ∉ s → P u = Q u) :
    iprop(bigSep Finset.univ P ∗ bigSep s Q) ⊢ bigSep Finset.univ Q := by
  rw [show bigSep Finset.univ P = iprop(bigSep s P ∗ bigSep (Finset.univ \ s) P) from bigSep_sdiff_split (Finset.subset_univ s),
    show bigSep Finset.univ Q = iprop(bigSep s Q ∗ bigSep (Finset.univ \ s) Q) from bigSep_sdiff_split (Finset.subset_univ s),
    bigSep_congr (s := Finset.univ \ s) (Φ := P) (Ψ := Q) fun u hu => h u (Finset.mem_sdiff.mp hu).2]
  iintro ⟨⟨-, Hr⟩, H⟩
  isplitl [H]; · iexact H
  iexact Hr

/-! ## The parts, case by case -/

omit [FloatOps F] in
/-- What is paid at a copy's source: the share it borrowed. -/
theorem keyPay_src (c : Dev nD) (t : Xfer) : keyPay X c (t, false) = owns (c : Thread nD τ) (slotM (par t)) (lendShare t) (slotVal X c (par t)) := rfl
omit [FloatOps F] in
/-- What is paid at a copy's arrival: the filled slot. -/
theorem keyPay_dst (c : Dev nD) (t : Xfer) : keyPay X c (t, true) = owns (c : Thread nD τ) (slotM (rx t)) fullShare (slotVal X c (rx t)) := rfl

section Parts
variable (c : Dev nD) {ns na nr nd nw : ℕ}

omit [FloatOps F] in
/-- The sending part of a copy that is not started. -/
theorem sendPart_todo (t : Xfer) (h : na ≤ sPos t) : sendPart (F := F) c na nd t
    = iprop(target c t ∗ dutyTok ER (cell (across (dir t) c) (t, true)) 0 0 ∗ dutyTok ER (cell c (t, false)) 0 0
      ∗ atPos ER (cell c (t, false)) 0 ∅ 0) := if_pos h
omit [FloatOps F] in
/-- The sending part of a copy under way. -/
theorem sendPart_away (t : Xfer) (h : sPos t < na) (h' : nd ≤ dPos t) : sendPart (F := F) c na nd t
    = iprop(cred (tallyAt (cell c (t, false)) () N) ∗ atPos ER (cell c (t, false)) 0 ∅ 0) := by
  unfold sendPart; rw [if_neg (by omega), if_pos h']
omit [FloatOps F] in
/-- The sending part of a copy whose source was waited for. -/
theorem sendPart_done (t : Xfer) (h : sPos t < na) (h' : dPos t < nd) : sendPart (F := F) c na nd t = semVal (cell c (t, false)) 0 := by
  unfold sendPart; rw [if_neg (by omega), if_neg (by omega)]
omit [FloatOps F] in
/-- Starting one copy leaves the other copies' sending parts as they are. -/
theorem sendPart_next (t u : Xfer) (h : u ≠ t) : sendPart (F := F) c (sPos t) nd u = sendPart c (sPos t + 1) nd u := by
  have : sPos u ≠ sPos t := fun e => h (sPos_inj e)
  have : sPos t ≤ sPos u ↔ sPos t + 1 ≤ sPos u := by omega
  unfold sendPart; simp only [this]
omit [FloatOps F] in
/-- Waiting for one copy's source leaves the other copies' sending parts as they are. -/
theorem sendPart_drain (t u : Xfer) (h : u ≠ t) : sendPart (F := F) c na (dPos t) u = sendPart c na (dPos t + 1) u := by
  have : dPos u ≠ dPos t := fun e => h (dPos_inj e)
  have : dPos t ≤ dPos u ↔ dPos t + 1 ≤ dPos u := by omega
  unfold sendPart; simp only [this]

omit [FloatOps F] in
/-- The receiving part of a copy whose arrival is not waited for yet. -/
theorem recvPart_todo (t : Xfer) (h : nr ≤ rPos t) : recvPart (F := F) c nr t
    = iprop(cred (tallyAt (cell c (t, true)) () N) ∗ atPos ER (cell c (t, true)) 0 ∅ 0) := if_pos h
omit [FloatOps F] in
/-- The receiving part of a copy whose arrival was waited for. -/
theorem recvPart_done (t : Xfer) (h : rPos t < nr) : recvPart (F := F) c nr t = semVal (cell c (t, true)) 0 := if_neg (by omega)
omit [FloatOps F] in
/-- Waiting for one arrival leaves the other copies' receiving parts as they are. -/
theorem recvPart_next (t u : Xfer) (h : u ≠ t) : recvPart (F := F) c (rPos t) u = recvPart c (rPos t + 1) u := by
  have : rPos u ≠ rPos t := fun e => h (rPos_inj e)
  have : rPos t ≤ rPos u ↔ rPos t + 1 ≤ rPos u := by omega
  unfold recvPart; simp only [this]

omit [FloatOps F] in
/-- What is kept of a slot once it is filled. -/
theorem keepPart_ready (s : Slot) (h : ready ns nr s) : keepPart X c ns nr s
    = owns (c : Thread nD τ) (slotM s) (keepShare s) (slotVal X c s) := if_pos h
omit [FloatOps F] in
/-- What is kept of a slot that the device is still to fill. -/
theorem keepPart_sb (i : Fin 12) (h : ns ≤ i.val) : keepPart X c ns nr (sb i)
    = iprop(∃ v, owns (c : Thread nD τ) (slotM (sb i)) fullShare v) := if_neg (by unfold ready; omega)
omit [FloatOps F] in
/-- One arrival changes nothing that is kept of the other slots. -/
theorem keepPart_recv (t : Xfer) (s : Slot) (h : s ≠ rx t) : keepPart X c ns (rPos t) s = keepPart X c ns (rPos t + 1) s := by
  have : ready ns (rPos t) s ↔ ready ns (rPos t + 1) s := by
    cases s with
    | sb i => exact Iff.rfl
    | rx u =>
      have : rPos u ≠ rPos t := fun e => h (congrArg rx (rPos_inj e))
      unfold ready; omega
  unfold keepPart; simp only [this]
omit [FloatOps F] in
/-- Filling one slot changes nothing that is kept of the others. -/
theorem keepPart_fill (i : Fin 12) (s : Slot) (h : s ≠ sb i) : keepPart X c i.val nr s = keepPart X c (i.val + 1) nr s := by
  have : ready i.val nr s ↔ ready (i.val + 1) nr s := by
    cases s with
    | rx u => exact Iff.rfl
    | sb j =>
      have : j.val ≠ i.val := fun e => h (congrArg sb (Fin.ext e))
      unfold ready; omega
  unfold keepPart; simp only [this]

omit [FloatOps F] in
/-- The share a copy is to borrow is in hand while its source is filled and it is not under way. -/
theorem lendPart_here (t : Xfer) (h : ready ns nr (par t)) (h' : ¬ away na nd t) : lendPart X c ns na nr nd t
    = owns (c : Thread nD τ) (slotM (par t)) (lendShare t) (slotVal X c (par t)) := if_pos ⟨h, h'⟩
omit [FloatOps F] in
/-- While a copy is under way, its share is not in hand. -/
theorem lendPart_away (t : Xfer) (h' : away na nd t) : lendPart X c ns na nr nd t = iprop(emp) := if_neg fun e => e.2 h'
omit [FloatOps F] in
/-- Starting one copy leaves the other copies' shares as they are. -/
theorem lendPart_next (t u : Xfer) (h : u ≠ t) : lendPart X c ns (sPos t) nr nd u = lendPart X c ns (sPos t + 1) nr nd u := by
  have : sPos u ≠ sPos t := fun e => h (sPos_inj e)
  have : away (sPos t) nd u ↔ away (sPos t + 1) nd u := by unfold away; omega
  unfold lendPart; simp only [this]
omit [FloatOps F] in
/-- Waiting for one copy's source leaves the other copies' shares as they are. -/
theorem lendPart_drain (t u : Xfer) (h : u ≠ t) : lendPart X c ns na nr (dPos t) u = lendPart X c ns na nr (dPos t + 1) u := by
  have : dPos u ≠ dPos t := fun e => h (dPos_inj e)
  have : away na (dPos t) u ↔ away na (dPos t + 1) u := by unfold away; omega
  unfold lendPart; simp only [this]
omit [FloatOps F] in
/-- One arrival leaves the shares of copies from other slots as they are. -/
theorem lendPart_recv (t u : Xfer) (h : u ∉ kids (rx t)) : lendPart X c ns na (rPos t) nd u = lendPart X c ns na (rPos t + 1) nd u := by
  have : ready ns (rPos t) (par u) ↔ ready ns (rPos t + 1) (par u) := by
    have h : par u ≠ rx t := fun e => h (mem_kids.mpr e)
    generalize par u = s at h
    cases s with
    | sb i => exact Iff.rfl
    | rx u =>
      have : rPos u ≠ rPos t := fun e => h (congrArg rx (rPos_inj e))
      unfold ready; omega
  unfold lendPart; simp only [this]
omit [FloatOps F] in
/-- Filling one slot leaves the shares of copies from other slots as they are. -/
theorem lendPart_fill (i : Fin 12) (u : Xfer) (h : u ∉ kids (sb i)) : lendPart X c i.val na nr nd u = lendPart X c (i.val + 1) na nr nd u := by
  have : ready i.val nr (par u) ↔ ready (i.val + 1) nr (par u) := by
    have h : par u ≠ sb i := fun e => h (mem_kids.mpr e)
    generalize par u = s at h
    cases s with
    | rx u => exact Iff.rfl
    | sb j =>
      have : j.val ≠ i.val := fun e => h (congrArg sb (Fin.ext e))
      unfold ready; omega
  unfold lendPart; simp only [this]

/-- A block of the result before it is written. -/
theorem outPart_todo (t : Xfer) (h : nw ≤ rPos t) : outPart X c nw t
    = iprop(∃ v, owns (c : Thread nD τ) (outM (blk c t)) fullShare v) := if_neg (by omega)
/-- A block of the result after it is written. -/
theorem outPart_done (t : Xfer) (h : rPos t < nw) : outPart X c nw t
    = owns (c : Thread nD τ) (outM (blk c t)) fullShare (outVal X c t) := if_pos h
/-- Writing one block leaves the others as they are. -/
theorem outPart_next (t u : Xfer) (h : u ≠ t) : outPart X c (rPos t) u = outPart X c (rPos t + 1) u := by
  have : rPos u ≠ rPos t := fun e => h (rPos_inj e)
  have : rPos u < rPos t ↔ rPos u < rPos t + 1 := by omega
  unfold outPart; simp only [this]

end Parts

/-! ## The operations -/

/-- The loops' measures: there is no loop. -/
abbrev 𝒱₀ : Variants := Variants.none

/-- A program's weakest precondition on a device. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Steps
variable (K : Dev nD × Option Key → ℕ) {c : Dev nD} {ns na nr nd nw : ℕ}

/-- A copy starts: its source's part and its target go with it. -/
theorem st_send {α : Type} {Q : α → sProp 𝕄} (t : Xfer) (ht : sPos t = na) (hr : ready ns nr (par t))
    {n : Dev nD} {src dst : Memref sig .tc .vmem S64x512 .bf16} {s₁ s₂ : DmaSem sig}
    {hsc : dst.view.ref.isScScratch = false} {hsrc : src.view.WordExact} {hdst : dst.view.WordExact}
    {hsem : DmaTarget.Typed .vmem (.dma s₂) (.remote (Dev.tc n : Thread nD τ) dst (.dma s₁) hsc)}
    {k : PUnit → Prog (TpuEff nD τ sig (Elt F) Λ₀ .tc) α}
    (hn : n = across (dir t) c) (h₁ : s₁ = semOf (t, false)) (h₂ : s₂ = semOf (t, true)) (hs : src = slotM (par t)) (hd : dst = slotM (rx t))
    (hk : St X K c ns (na + 1) nr 0 nw ⊢ WP c (k ⟨⟩) Q) :
    St X K c ns na nr 0 nw ⊢ WP c (.op (.enqueueDma src (.remote (Dev.tc n : Thread nD τ) dst (.dma s₁) hsc) (.dma s₂) hsrc hdst hsem) k) Q := by
  subst ht hn h₁ h₂ hs hd
  unfold St
  iintro ⟨#He, ⟨%W, HO⟩, HS, HR, HK, HL, HY, HX⟩
  ihave HS := (bigSep_swap t (P := sendPart c (sPos t) 0) (Q := sendPart c (sPos t + 1) 0) (sendPart_next c t)) $$ HS
  icases HS with ⟨Ht, HS⟩
  ihave HL := (bigSep_swap t (P := lendPart X c ns (sPos t) nr 0) (Q := lendPart X c ns (sPos t + 1) nr 0) (lendPart_next X c t)) $$ HL
  icases HL with ⟨Hl, HL⟩
  ihave Ht := (Entails.of_eq (sendPart_todo c t le_rfl)) $$ Ht
  ihave Hl := (Entails.of_eq (lendPart_here X c t hr fun e => absurd e.1 (Nat.lt_irrefl _))) $$ Hl
  unfold target owns
  icases Ht with ⟨⟨%v, %fd, %hfd, Hdst⟩, Htr, Hts, Hat⟩
  icases Hl with ⟨%fs, %hfs, Hsrc⟩
  ihave He₁ := (env_cell X K c (t, false)) $$ He
  icases He₁ with ⟨#Hi₁, #Hr₁⟩
  ihave He₂ := (env_cell X K (across (dir t) c) (t, true)) $$ He
  icases He₂ with ⟨#Hi₂, #Hr₂⟩
  iapply (Rounds.wp_send_pointsTo 𝒱₀ ER (sched X) (c : Thread nD τ) none (κ₁ := K (c, some (t, false)))
      (κ₂ := K (across (dir t) c, some (t, true))) (r₁ := 0) (r₂ := 0) (d₁ := 0) (d₂ := 0) (q := lendShare t) (fs := fs) (fd := fd)
      (by rw [duties_key]; exact Finset.mem_singleton_self _) (by rw [duties_key]; exact Finset.mem_singleton_self _)
      () () N (show (slotM (rx t)).view.amount (.dma (semOf (t, true))) = N from credit_slot (rx t)) (amount_key X c (t, false) 0) (amount_key X (across (dir t) c) (t, true) 0) (owed c (sPos t + 1)) (owed_step c t) (W := W)
      (by rw [payload_key, keyPay_src, ← hfs]; exact owns_intro (c : Thread nD τ) (slotM (par t)) (lendShare t) fs)
      (by
        rw [payload_key, keyPay_dst, slotVal_sent, ← hfs]
        refine (owns_intro (across (dir t) c : Thread nD τ) (slotM (rx t)) fullShare _).trans (Entails.of_eq ?_)
        rw [View.read_write_univ]))
    $$ [Hsrc Hdst HO Hts Htr]
  · isplitr; · iexact Hi₁
    isplitr; · iexact Hi₂
    isplitl [Hsrc]; · iexact Hsrc
    isplitl [Hdst]; · iexact Hdst
    isplitl [HO]; · iexact HO
    isplitl [Hts]; · iexact Hts
    isplitr; · iexact Hr₁
    isplitl [Htr]; · iexact Htr
    iexact Hr₂
  iintro ⟨Hc, HO⟩
  iapply hk
  unfold St
  isplitr; · iexact He
  isplitl [HO]; · iexists W; iexact HO
  isplitl [HS Hc Hat]
  · iapply HS; rw [sendPart_away c t (Nat.lt_succ_self _) (Nat.zero_le _)]
    isplitl [Hc]; · iexact Hc
    iexact Hat
  isplitl [HR]; · iexact HR
  isplitl [HK]; · iexact HK
  isplitl [HL]
  · iapply HL; rw [lendPart_away X c t ⟨Nat.lt_succ_self _, Nat.zero_le _⟩]; iempintro
  isplitl [HY]; · iexact HY
  iexact HX

/-- A copy has arrived: the slot holds its rows, and its parts can be lent. -/
theorem st_recv {α : Type} {Q : α → sProp 𝕄} (t : Xfer) (ht : rPos t = nr) (hm : ∀ u, na ≤ sPos u → hop t < hop u) (hu : ∀ u, par u = rx t → na ≤ sPos u)
    {src dst : Memref sig .tc .vmem S64x512 .bf16} {s : DmaSem sig} {hsrc : src.view.WordExact} {hdst : dst.view.WordExact}
    {k : PUnit → Prog (TpuEff nD τ sig (Elt F) Λ₀ .tc) α} (hs : s = semOf (t, true)) (hd : dst.view.dmaCredit = N)
    (hk : St X K c ns na (nr + 1) 0 nw ⊢ WP c (k ⟨⟩) Q) :
    St X K c ns na nr 0 nw ⊢ WP c (.op (.waitDma2 s src dst hsrc hdst) k) Q := by
  subst ht hs
  unfold St
  iintro ⟨#He, ⟨%W, HO⟩, HS, HR, HK, HL, HY, HX⟩
  ihave HR := (bigSep_swap t (P := recvPart c (rPos t)) (Q := recvPart c (rPos t + 1)) (recvPart_next c t)) $$ HR
  icases HR with ⟨Ht, HR⟩
  ihave HK := (bigSep_swap (rx t) (P := keepPart X c ns (rPos t)) (Q := keepPart X c ns (rPos t + 1)) (keepPart_recv X c t)) $$ HK
  icases HK with ⟨-, HK⟩
  ihave Ht := (Entails.of_eq (recvPart_todo c t le_rfl)) $$ Ht
  icases Ht with ⟨Hc, Hat⟩
  ihave He₁ := (env_cell X K c (t, true)) $$ He
  icases He₁ with ⟨#Hi, #Hr⟩
  iapply (Rounds.wp_wait_rest_token 𝒱₀ ER (sched X) (c : Thread nD τ) none (κ := K (c, some (t, true)))
      (wpE_waitDma2_eq 𝒱₀ (c : Thread nD τ) none Set.univ) (Set.mem_univ _) () (O := owed c na) (W := W) (R := 0) (m := 0) (T := ∅)
      (by rw [Nat.zero_add, expect_key, hd])) $$ [Hc HO Hat]
  · isplitr; · iexact Hi
    isplitl [Hc]; · rw [hd]; iexact Hc
    isplitl [HO]; · iexact HO
    isplitr
    · iapply (env_recv X K c t na hm) $$ He
    iexact Hat
  iintro ⟨HO, Hat, -, Hpay⟩
  ihave Hp := (Entails.of_eq ((rest_key X c (t, true)).trans (keyPay_dst X c t))) $$ Hpay
  imod (Rounds.cell_close ER (sched X) (Set.mem_univ (K (c, some (t, true)))) (fun h => h) (R := 0 + 1) (duties_later X (cell c (t, true)))) $$ [Hat] with Hz
  · isplitr; · iexact Hi
    iexact Hat
  ihave Hp := (share_out c (rx t) (slotVal X c (rx t))) $$ Hp
  icases Hp with ⟨Hkeep, Hlend⟩
  iapply hk
  unfold St
  isplitr; · iexact He
  isplitl [HO]; · iexists _; iexact HO
  isplitl [HS]; · iexact HS
  isplitl [HR Hz]
  · iapply HR; rw [recvPart_done c t (Nat.lt_succ_self _)]; iexact Hz
  isplitl [HK Hkeep]
  · iapply HK; rw [keepPart_ready X c (rx t) (Nat.lt_succ_self _)]; iexact Hkeep
  isplitl [HL Hlend]
  · iapply (bigSep_fill (kids (rx t)) (lendPart_recv X c (na := na) t))
    isplitl [HL]; · iexact HL
    rw [bigSep_congr (s := kids (rx t)) (Φ := lendPart X c ns na (rPos t + 1) 0)
      (Ψ := fun u => owns (c : Thread nD τ) (slotM (rx t)) (lendShare u) (slotVal X c (rx t))) fun u hu' => ?_]
    · iexact Hlend
    · have hp := mem_kids.mp hu'
      rw [lendPart_here X c u (by rw [hp]; exact Nat.lt_succ_self _) (fun e => absurd (hu u hp) (by have := e.1; omega)), hp]
  isplitl [HY]; · iexact HY
  iexact HX

/-- A copy's source is free again: what it was lent comes back. -/
theorem st_drain {α : Type} {Q : α → sProp 𝕄} (t : Xfer) (ht : dPos t = nd) (hr : ready ns nr (par t))
    {src dst : Memref sig .tc .vmem S64x512 .bf16} {s : DmaSem sig} {hsrc : src.view.WordExact} {hdst : dst.view.WordExact}
    {k : PUnit → Prog (TpuEff nD τ sig (Elt F) Λ₀ .tc) α} (hs : s = semOf (t, false)) (hd : dst.view.dmaCredit = N)
    (hk : St X K c ns 32 nr (nd + 1) nw ⊢ WP c (k ⟨⟩) Q) :
    St X K c ns 32 nr nd nw ⊢ WP c (.op (.waitDma2 s src dst hsrc hdst) k) Q := by
  subst ht hs
  unfold St
  iintro ⟨#He, ⟨%W, HO⟩, HS, HR, HK, HL, HY, HX⟩
  ihave HS := (bigSep_swap t (P := sendPart c 32 (dPos t)) (Q := sendPart c 32 (dPos t + 1)) (sendPart_drain c t)) $$ HS
  icases HS with ⟨Ht, HS⟩
  ihave HL := (bigSep_swap t (P := lendPart X c ns 32 nr (dPos t)) (Q := lendPart X c ns 32 nr (dPos t + 1)) (lendPart_drain X c t)) $$ HL
  icases HL with ⟨-, HL⟩
  ihave Ht := (Entails.of_eq (sendPart_away c t (sPos_lt t) le_rfl)) $$ Ht
  icases Ht with ⟨Hc, Hat⟩
  ihave He₁ := (env_cell X K c (t, false)) $$ He
  icases He₁ with ⟨#Hi, #Hr⟩
  rw [owed_end]
  iapply (Rounds.wp_wait_rest_token 𝒱₀ ER (sched X) (c : Thread nD τ) none (κ := K (c, some (t, false)))
      (wpE_waitDma2_eq 𝒱₀ (c : Thread nD τ) none Set.univ) (Set.mem_univ _) () (O := 0) (W := W) (R := 0) (m := 0) (T := ∅)
      (by rw [Nat.zero_add, expect_key, hd])) $$ [Hc HO Hat]
  · isplitr; · iexact Hi
    isplitl [Hc]; · rw [hd]; iexact Hc
    isplitl [HO]; · iexact HO
    isplitr; · rw [MayWait_zero]; iempintro
    iexact Hat
  iintro ⟨HO, Hat, -, Hpay⟩
  ihave Hp := (Entails.of_eq ((rest_key X c (t, false)).trans (keyPay_src X c t))) $$ Hpay
  imod (Rounds.cell_close ER (sched X) (Set.mem_univ (K (c, some (t, false)))) (fun h => h) (R := 0 + 1) (duties_later X (cell c (t, false)))) $$ [Hat] with Hz
  · isplitr; · iexact Hi
    iexact Hat
  iapply hk
  unfold St
  rw [owed_end]
  isplitr; · iexact He
  isplitl [HO]; · iexists _; iexact HO
  isplitl [HS Hz]
  · iapply HS; rw [sendPart_done c t (sPos_lt t) (Nat.lt_succ_self _)]; iexact Hz
  isplitl [HR]; · iexact HR
  isplitl [HK]; · iexact HK
  isplitl [HL Hp]
  · iapply HL; rw [lendPart_here X c t hr (fun e => absurd e.2 (by omega))]; iexact Hp
  isplitl [HY]; · iexact HY
  iexact HX

/-- A slot read through its rectangle of the buffer. -/
theorem wp_load_slot {α : Type} {Q : α → sProp 𝕄} {M : Memref sig .tc .vmem S64x512 .bf16} {q : PosShare TreeShare} {V : S64x512.Idx → Elt F .bf16}
    {n : ℕ} {m : Memref sig .tc .vmem ⟨3, ![n, 64, 512]⟩ .bf16} {off : Fin 3 → ℕ}
    {inb : ∀ a, off a + S1x64x512.size a ≤ (⟨3, ![n, 64, 512]⟩ : Shape).size a}
    {hl : m.view.LoadsAt (Rect.unit (s := ⟨3, ![n, 64, 512]⟩) off S1x64x512.size inb).toLoadRect}
    {k : (S1x64x512.Idx → Elt F .bf16) → Prog (TpuEff nD τ sig (Elt F) Λ₀ .tc) α}
    (hs : M = (m.slice (Rect.unit (s := ⟨3, ![n, 64, 512]⟩) off S1x64x512.size inb) (fun _ => rfl)).squeeze S64x512 squeezes_S1x64x512_S64x512) :
    owns (c : Thread nD τ) M q V
      ⊢ iprop((∀ v, ⌜shapeCast S64x512 v shapeCasts_S1x64x512_S64x512 = V⌝ -∗ owns (c : Thread nD τ) M q V -∗ WP c (k v) Q)
        -∗ WP c (.op (.load m (Rect.unit (s := ⟨3, ![n, 64, 512]⟩) off S1x64x512.size inb).toLoadRect hl) k) Q) := by
  subst hs
  unfold owns
  iintro ⟨%f, %hf, H⟩ Hk
  iapply (wp_load_rect 𝒱₀ (c : Thread nD τ) none Set.univ (m := m)
    (r := Rect.unit (s := ⟨3, ![n, 64, 512]⟩) off S1x64x512.size inb) (f := f)
    (subset_of_eq (View.set_reshape (m.access (Rect.unit (s := ⟨3, ![n, 64, 512]⟩) off S1x64x512.size inb)) _).symm)) $$ H
  iintro H
  iapply Hk $$ [] [H]
  · ipureintro; exact hf
  · iexists f; isplitr; · (ipureintro; exact hf)
    iexact H

/-- The slot as a rectangle of its buffer: a load of it gives the rows it holds. -/
theorem st_load {α : Type} {Q : α → sProp 𝕄} (s : Slot) (hr : ready ns nr s) {n : ℕ} {m : Memref sig .tc .vmem ⟨3, ![n, 64, 512]⟩ .bf16} {off : Fin 3 → ℕ}
    {inb : ∀ a, off a + S1x64x512.size a ≤ (⟨3, ![n, 64, 512]⟩ : Shape).size a}
    {hl : m.view.LoadsAt (Rect.unit (s := ⟨3, ![n, 64, 512]⟩) off S1x64x512.size inb).toLoadRect}
    {k : (S1x64x512.Idx → Elt F .bf16) → Prog (TpuEff nD τ sig (Elt F) Λ₀ .tc) α}
    (hs : slotM s = (m.slice (Rect.unit (s := ⟨3, ![n, 64, 512]⟩) off S1x64x512.size inb) (fun _ => rfl)).squeeze S64x512 squeezes_S1x64x512_S64x512)
    (hk : ∀ v, shapeCast S64x512 v shapeCasts_S1x64x512_S64x512 = slotVal X c s → St X K c ns na nr nd nw ⊢ WP c (k v) Q) :
    St X K c ns na nr nd nw ⊢ WP c (.op (.load m (Rect.unit (s := ⟨3, ![n, 64, 512]⟩) off S1x64x512.size inb).toLoadRect hl) k) Q := by
  unfold St
  iintro ⟨#He, HO, HS, HR, HK, HL, HY, HX⟩
  ihave HK := (bigSep_swap s (P := keepPart X c ns nr) (Q := keepPart X c ns nr) (fun _ _ => rfl)) $$ HK
  icases HK with ⟨Hs, HK⟩
  ihave Hs := (Entails.of_eq (keepPart_ready X c s hr)) $$ Hs
  iapply (wp_load_slot hs) $$ Hs
  iintro %v %hv Hs
  iapply (hk v hv)
  unfold St
  isplitr; · iexact He
  isplitl [HO]; · iexact HO
  isplitl [HS]; · iexact HS
  isplitl [HR]; · iexact HR
  isplitl [HK Hs]; · iapply HK; rw [keepPart_ready X c s hr]; iexact Hs
  isplitl [HL]; · iexact HL
  isplitl [HY]; · iexact HY
  iexact HX

/-- A load of a slot that the device has not filled yet: whatever is there. -/
theorem st_load_any {α : Type} {Q : α → sProp 𝕄} (i : Fin 12) (hi : ns ≤ i.val) {n : ℕ} {m : Memref sig .tc .vmem ⟨3, ![n, 64, 512]⟩ .bf16} {off : Fin 3 → ℕ}
    {inb : ∀ a, off a + S1x64x512.size a ≤ (⟨3, ![n, 64, 512]⟩ : Shape).size a}
    {hl : m.view.LoadsAt (Rect.unit (s := ⟨3, ![n, 64, 512]⟩) off S1x64x512.size inb).toLoadRect}
    {k : (S1x64x512.Idx → Elt F .bf16) → Prog (TpuEff nD τ sig (Elt F) Λ₀ .tc) α}
    (hs : slotM (sb i) = (m.slice (Rect.unit (s := ⟨3, ![n, 64, 512]⟩) off S1x64x512.size inb) (fun _ => rfl)).squeeze S64x512 squeezes_S1x64x512_S64x512)
    (hk : ∀ v, St X K c ns na nr nd nw ⊢ WP c (k v) Q) :
    St X K c ns na nr nd nw ⊢ WP c (.op (.load m (Rect.unit (s := ⟨3, ![n, 64, 512]⟩) off S1x64x512.size inb).toLoadRect hl) k) Q := by
  unfold St
  iintro ⟨#He, HO, HS, HR, HK, HL, HY, HX⟩
  ihave HK := (bigSep_swap (sb i) (P := keepPart X c ns nr) (Q := keepPart X c ns nr) (fun _ _ => rfl)) $$ HK
  icases HK with ⟨Hs, HK⟩
  ihave Hs := (Entails.of_eq (keepPart_sb X c i hi)) $$ Hs
  icases Hs with ⟨%V, Hs⟩
  iapply (wp_load_slot hs) $$ Hs
  iintro %v %hv Hs
  iapply (hk v)
  unfold St
  isplitr; · iexact He
  isplitl [HO]; · iexact HO
  isplitl [HS]; · iexact HS
  isplitl [HR]; · iexact HR
  isplitl [HK Hs]; · iapply HK; rw [keepPart_sb X c i hi]; iexists V; iexact Hs
  isplitl [HL]; · iexact HL
  isplitl [HY]; · iexact HY
  iexact HX

/-- The device fills its next slot. -/
theorem st_fill {α : Type} {Q : α → sProp 𝕄} (i : Fin 12) (hi : i.val = ns) (hu : ∀ u, par u = sb i → na ≤ sPos u)
    {n : ℕ} {m : Memref sig .tc .vmem ⟨3, ![n, 64, 512]⟩ .bf16} {off : Fin 3 → ℕ}
    {inb : ∀ a, off a + S1x64x512.size a ≤ (⟨3, ![n, 64, 512]⟩ : Shape).size a}
    {w : S1x64x512.Idx → Elt F .bf16}
    {hx : (m.access (Rect.unit (s := ⟨3, ![n, 64, 512]⟩) off S1x64x512.size inb)).Stores Finset.univ}
    {hm : (Finset.univ : Finset (Rect.unit (s := ⟨3, ![n, 64, 512]⟩) off S1x64x512.size inb).shape.Idx) = Finset.univ
      ∨ ∀ a, (Rect.unit (s := ⟨3, ![n, 64, 512]⟩) off S1x64x512.size inb).stride a = 1}
    {k : PUnit → Prog (TpuEff nD τ sig (Elt F) Λ₀ .tc) α}
    (hs : slotM (sb i) = (m.slice (Rect.unit (s := ⟨3, ![n, 64, 512]⟩) off S1x64x512.size inb) (fun _ => rfl)).squeeze S64x512 squeezes_S1x64x512_S64x512)
    (hw : shapeCast S64x512 w shapeCasts_S1x64x512_S64x512 = slotVal X c (sb i))
    (hk : St X K c (ns + 1) na nr 0 nw ⊢ WP c (k ⟨⟩) Q) :
    St X K c ns na nr 0 nw ⊢ WP c (.op (.store m (Rect.unit (s := ⟨3, ![n, 64, 512]⟩) off S1x64x512.size inb) w Finset.univ hx hm) k) Q := by
  subst hi
  have hst : iprop(∃ v, owns (c : Thread nD τ) (slotM (sb i)) fullShare v)
      ⊢ iprop((owns (c : Thread nD τ) (slotM (sb i)) fullShare (slotVal X c (sb i)) -∗ WP c (k ⟨⟩) Q)
        -∗ WP c (.op (.store m (Rect.unit (s := ⟨3, ![n, 64, 512]⟩) off S1x64x512.size inb) w Finset.univ hx hm) k) Q) := by
    rw [hs, ← hw]
    unfold owns
    iintro ⟨%v, %f, %hf, H⟩ Hk
    iapply (wp_store 𝒱₀ (c : Thread nD τ) none Set.univ (m := m)
      (r := Rect.unit (s := ⟨3, ![n, 64, 512]⟩) off S1x64x512.size inb) (Mk := Finset.univ) (f := f)
      (subset_of_eq (View.set_reshape (m.access (Rect.unit (s := ⟨3, ![n, 64, 512]⟩) off S1x64x512.size inb)) _).symm)) $$ H
    iintro H
    iapply Hk
    iexists _
    isplitr
    rotate_left
    · iexact H
    · ipureintro
      exact (Memref.read_squeeze_slice m (Rect.unit (s := ⟨3, ![n, 64, 512]⟩) off S1x64x512.size inb) (fun _ => rfl)
          squeezes_S1x64x512_S64x512 shapeCasts_S1x64x512_S64x512 _).trans
        (congrArg (fun z => shapeCast S64x512 z shapeCasts_S1x64x512_S64x512) <| View.read_write_univ (v := m.access (Rect.unit (s := ⟨3, ![n, 64, 512]⟩) off S1x64x512.size inb)) f w)
  unfold St
  iintro ⟨#He, HO, HS, HR, HK, HL, HY, HX⟩
  ihave HK := (bigSep_swap (sb i) (P := keepPart X c i.val nr) (Q := keepPart X c (i.val + 1) nr) (keepPart_fill X c i)) $$ HK
  icases HK with ⟨Hs, HK⟩
  ihave Hs := (Entails.of_eq (keepPart_sb X c i le_rfl)) $$ Hs
  iapply hst $$ Hs
  iintro Hs
  ihave Hs := (share_out c (sb i) (slotVal X c (sb i))) $$ Hs
  icases Hs with ⟨Hkeep, Hlend⟩
  iapply hk
  unfold St
  isplitr; · iexact He
  isplitl [HO]; · iexact HO
  isplitl [HS]; · iexact HS
  isplitl [HR]; · iexact HR
  isplitl [HK Hkeep]
  · iapply HK; rw [keepPart_ready X c (sb i) (Nat.lt_succ_self _)]; iexact Hkeep
  isplitl [HL Hlend]
  · iapply (bigSep_fill (kids (sb i)) (lendPart_fill X c (na := na) i))
    isplitl [HL]; · iexact HL
    rw [bigSep_congr (s := kids (sb i)) (Φ := lendPart X c (i.val + 1) na nr 0)
      (Ψ := fun u => owns (c : Thread nD τ) (slotM (sb i)) (lendShare u) (slotVal X c (sb i))) fun u hu' => ?_]
    · iexact Hlend
    · have hp := mem_kids.mp hu'
      rw [lendPart_here X c u (by rw [hp]; exact Nat.lt_succ_self _) (fun e => absurd (hu u hp) (by have := e.1; omega)), hp]
  isplitl [HY]; · iexact HY
  iexact HX

/-- A load of a block of the device's own rows. -/
theorem st_load_x {α : Type} {Q : α → sProp 𝕄} (b : Fin 32) {off : Fin 2 → ℕ} {inb : ∀ a, off a + S64x512.size a ≤ S2048x512.size a}
    {hl : xM.view.LoadsAt (Rect.unit (s := S2048x512) off S64x512.size inb).toLoadRect}
    {k : (S64x512.Idx → Elt F .bf16) → Prog (TpuEff nD τ sig (Elt F) Λ₀ .tc) α}
    (ho : off = rowOff b) (hk : St X K c ns na nr nd nw ⊢ WP c (k (rowsOf (X c) b)) Q) :
    St X K c ns na nr nd nw ⊢ WP c (.op (.load xM (Rect.unit (s := S2048x512) off S64x512.size inb).toLoadRect hl) k) Q := by
  subst ho
  unfold St
  iintro ⟨#He, HO, HS, HR, HK, HL, HY, HX, Hz⟩
  iapply (wp_load 𝒱₀ (c : Thread nD τ) none Set.univ (m := xM) (Finset.subset_univ _)) $$ HX
  iintro HX
  iapply hk
  unfold St
  isplitr; · iexact He
  isplitl [HO]; · iexact HO
  isplitl [HS]; · iexact HS
  isplitl [HR]; · iexact HR
  isplitl [HK]; · iexact HK
  isplitl [HL]; · iexact HL
  isplitl [HY]; · iexact HY
  isplitl [HX]; · iexact HX
  iexact Hz

/-- A load of a block of the result before it is written: whatever is there. -/
theorem st_load_out {α : Type} {Q : α → sProp 𝕄} (t : Xfer) (ht : nw ≤ rPos t) {off : Fin 2 → ℕ} {inb : ∀ a, off a + S64x512.size a ≤ S2048x512.size a}
    {hl : oM.view.LoadsAt (Rect.unit (s := S2048x512) off S64x512.size inb).toLoadRect}
    {k : (S64x512.Idx → Elt F .bf16) → Prog (TpuEff nD τ sig (Elt F) Λ₀ .tc) α}
    (ho : off = rowOff (blk c t)) (hk : ∀ v, St X K c ns na nr nd nw ⊢ WP c (k v) Q) :
    St X K c ns na nr nd nw ⊢ WP c (.op (.load oM (Rect.unit (s := S2048x512) off S64x512.size inb).toLoadRect hl) k) Q := by
  subst ho
  unfold St
  iintro ⟨#He, HO, HS, HR, HK, HL, HY, HX⟩
  ihave HY := (bigSep_swap t (P := outPart X c nw) (Q := outPart X c nw) (fun _ _ => rfl)) $$ HY
  icases HY with ⟨Ht, HY⟩
  ihave Ht := (Entails.of_eq (outPart_todo X c t ht)) $$ Ht
  unfold owns
  icases Ht with ⟨%v, %f, %hf, H⟩
  iapply (wp_load_rect 𝒱₀ (c : Thread nD τ) none Set.univ (m := oM) (r := rowRect (blk c t)) (S := (outM (blk c t)).view.set) (f := f)
    (Finset.Subset.refl _)) $$ H
  iintro H
  iapply (hk _)
  unfold St
  isplitr; · iexact He
  isplitl [HO]; · iexact HO
  isplitl [HS]; · iexact HS
  isplitl [HR]; · iexact HR
  isplitl [HK]; · iexact HK
  isplitl [HL]; · iexact HL
  isplitl [HY H]
  · iapply HY; rw [outPart_todo X c t ht]; unfold owns; iexists v; iexists f; isplitr; · (ipureintro; exact hf)
    iexact H
  iexact HX

/-- The next block of the result is written. -/
theorem st_store {α : Type} {Q : α → sProp 𝕄} (t : Xfer) (ht : rPos t = nw) {off : Fin 2 → ℕ} {inb : ∀ a, off a + S64x512.size a ≤ S2048x512.size a}
    {w : S64x512.Idx → Elt F .bf16}
    {hx : (oM.access (Rect.unit (s := S2048x512) off S64x512.size inb)).Stores Finset.univ}
    {hm : (Finset.univ : Finset (Rect.unit (s := S2048x512) off S64x512.size inb).shape.Idx) = Finset.univ
      ∨ ∀ a, (Rect.unit (s := S2048x512) off S64x512.size inb).stride a = 1}
    {k : PUnit → Prog (TpuEff nD τ sig (Elt F) Λ₀ .tc) α}
    (ho : off = rowOff (blk c t)) (hw : w = outVal X c t) (hk : St X K c ns na nr nd (nw + 1) ⊢ WP c (k ⟨⟩) Q) :
    St X K c ns na nr nd nw ⊢ WP c (.op (.store oM (Rect.unit (s := S2048x512) off S64x512.size inb) w Finset.univ hx hm) k) Q := by
  subst ho ht hw
  unfold St
  iintro ⟨#He, HO, HS, HR, HK, HL, HY, HX⟩
  ihave HY := (bigSep_swap t (P := outPart X c (rPos t)) (Q := outPart X c (rPos t + 1)) (outPart_next X c t)) $$ HY
  icases HY with ⟨Ht, HY⟩
  ihave Ht := (Entails.of_eq (outPart_todo X c t le_rfl)) $$ Ht
  unfold owns
  icases Ht with ⟨%v, %f, %hf, H⟩
  iapply (wp_store 𝒱₀ (c : Thread nD τ) none Set.univ (m := oM) (r := rowRect (blk c t)) (Mk := Finset.univ) (S := (outM (blk c t)).view.set) (f := f)
    (Finset.Subset.refl _)) $$ H
  iintro H
  iapply hk
  unfold St
  isplitr; · iexact He
  isplitl [HO]; · iexact HO
  isplitl [HS]; · iexact HS
  isplitl [HR]; · iexact HR
  isplitl [HK]; · iexact HK
  isplitl [HL]; · iexact HL
  isplitl [HY H]
  · iapply HY; rw [outPart_done X c t (Nat.lt_succ_self _)]; unfold owns
    iexists _
    isplitr
    rotate_left
    · iexact H
    · ipureintro
      exact View.read_write_univ (v := oM.access (rowRect (blk c t))) f (outVal X c t)
  iexact HX

end Steps

end Cert.Exchange

end
-- ==== Proof.Run.lean ====
/-
# The run

The kernel's body on device `c`: the barrier, and then the operations one after another, each one by its lemma at the
counts reached.
-/
module

public import proofs.«01_k».proof.Proof.State

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Xfer Slot

variable {F : FTy → Type} [FloatOps F]

local notation "𝕄" => MT nD τ sig Unit (Elt F) ℕ UU ℕ

variable (X : Arrays F) (K : Dev nD × Option Key → ℕ)

/-! ## The barrier -/

/-- A neighbour's barrier before it is signalled: the duty, and the slots of `c` that go with the signal. -/
def barPart (c : Dev nD) (n : ℕ) (d : Fin 3) : sProp 𝕄 :=
  if n ≤ d.val then iprop(dutyTok ER (barCell (across d c)) 0 d ∗ barPay (across d c) d) else iprop(emp)

/-- What a copy needs besides its target. -/
def sendRest (c : Dev nD) (t : Xfer) : sProp 𝕄 :=
  iprop(dutyTok ER (cell (across (dir t) c) (t, true)) 0 0 ∗ dutyTok ER (cell c (t, false)) 0 0 ∗ atPos ER (cell c (t, false)) 0 ∅ 0)

/-- The state of device `c` before its barrier, `n` neighbours signalled. -/
def Pre (c : Dev nD) (n : ℕ) : sProp 𝕄 :=
  iprop(env X K ∗ (∃ W, owes (c : Thread nD τ) (owedB c n) W)
    ∗ cred (tallyAt (barCell c) () 3) ∗ atPos ER (barCell c) 0 ∅ 0
    ∗ bigSep Finset.univ (barPart (F := F) c n)
    ∗ bigSep Finset.univ (sendRest (F := F) c)
    ∗ bigSep Finset.univ (recvPart c 0)
    ∗ bigSep Finset.univ (keepPart X c 0 0)
    ∗ bigSep Finset.univ (lendPart X c 0 0 0 0)
    ∗ bigSep Finset.univ (outPart X c 0)
    ∗ xPts X c)

omit [FloatOps F] in
/-- Before a neighbour is signalled, its duty is in hand. -/
theorem barPart_todo (c : Dev nD) (d : Fin 3) :
    barPart (F := F) c d.val d = iprop(dutyTok ER (barCell (across d c)) 0 d ∗ barPay (across d c) d) := if_pos le_rfl
omit [FloatOps F] in
/-- Signalling one neighbour leaves the others' parts as they are. -/
theorem barPart_next (c : Dev nD) (d e : Fin 3) (h : e ≠ d) : barPart (F := F) c d.val e = barPart c (d.val + 1) e := by
  have : e.val ≠ d.val := fun x => h (Fin.ext x)
  have : d.val ≤ e.val ↔ d.val + 1 ≤ e.val := by omega
  unfold barPart; simp only [this]

omit [FloatOps F] in
set_option maxRecDepth 100000 in
/-- A device may wait at its barrier while it owes all its copies. -/
theorem env_barWait (c : Dev nD) : env X K ⊢ (MayWait (c : Thread nD τ) (.reg barS) () (owed c 0) : sProp 𝕄) :=
  (env_lev X K).trans (mayWait_bar c)

/-- A neighbour's barrier is signalled: the slots it copies into go with it. -/
theorem st_signal {c : Dev nD} {α : Type} {Q : α → sProp 𝕄} (d : Fin 3) {n : ℕ} (hd : d.val = n) {e : Dev nD} {s : Sem sig}
    {w : ℤ} {k : PUnit → Prog (TpuEff nD τ sig (Elt F) Λ₀ .tc) α}
    (he : e = across d c) (hs : s = barS) (hw : w = 1) (hk : Pre X K c (n + 1) ⊢ WP c (k ⟨⟩) Q) :
    Pre X K c n ⊢ WP c (.op (.semSignal (e, .tc) s w) k) Q := by
  subst hd he hs hw
  unfold Pre
  iintro ⟨#He, ⟨%W, HO⟩, Hc, Hat, HB, HS, HR, HK, HL, HY, HX⟩
  ihave HB := (bigSep_swap d (P := barPart c d.val) (Q := barPart c (d.val + 1)) (barPart_next c d)) $$ HB
  icases HB with ⟨Hd, HB⟩
  ihave Hd := (Entails.of_eq (barPart_todo c d)) $$ Hd
  icases Hd with ⟨Hd, Hp⟩
  ihave He₁ := (env_bar X K (across d c)) $$ He
  icases He₁ with ⟨#Hi, #Hr⟩
  iapply (Rounds.wp_signal 𝒱₀ ER (sched X) (c : Thread nD τ) none (dst := (across d c : Thread nD τ)) (κ := K (across d c, none))
      (d := d) (by rw [duties_bar]; exact Finset.mem_univ _) ((amount_bar X (across d c) d).trans (by decide)) ()
      (owedB c (d.val + 1)) (owedB_step c d)) $$ [HO Hd Hp]
  · isplitr; · iexact Hi
    isplitl [HO]; · iexact HO
    isplitl [Hd]; · iexact Hd
    isplitl [Hp]; · rw [payload_bar]; iexact Hp
    iexact Hr
  iintro HO
  iapply hk
  unfold Pre
  isplitr; · iexact He
  isplitl [HO]; · iexists W; iexact HO
  isplitl [Hc]; · iexact Hc
  isplitl [Hat]; · iexact Hat
  isplitl [HB]; · iapply HB; unfold barPart; rw [if_neg (by omega)]; iempintro
  isplitl [HS]; · iexact HS
  isplitl [HR]; · iexact HR
  isplitl [HK]; · iexact HK
  isplitl [HL]; · iexact HL
  isplitl [HY]; · iexact HY
  iexact HX

omit [FloatOps F] in
/-- What the neighbours' signals bring: every copy's target. -/
theorem targets_of_bar (c : Dev nD) :
    iprop(bigSep Finset.univ (fun d => barPay (F := F) c d) ∗ bigSep Finset.univ (sendRest (F := F) c))
      ⊢ bigSep Finset.univ (sendPart (F := F) c 0 0) := by
  have h : (bigSep Finset.univ fun d => barPay (F := F) c d) = bigSep Finset.univ (target c) := by
    rw [bigSep_fiberwise Finset.univ dir (target c), show Finset.univ.image dir = Finset.univ from by decide +kernel]
    refine bigSep_congr fun d _ => ?_
    unfold barPay
    exact bigSep_congr fun t ht => by rw [← (Finset.mem_filter.mp ht).2]
  rw [h, ← bigSep_sep']
  refine Entails.of_eq (bigSep_congr fun t _ => ?_)
  rw [sendPart_todo c t (Nat.zero_le _)]; unfold sendRest; rfl

/-- The barrier: every neighbour has signalled, so every copy's target is there to be written. -/
theorem st_barrier {c : Dev nD} {α : Type} {Q : α → sProp 𝕄} {s : Sem sig} {w : ℤ} {k : PUnit → Prog (TpuEff nD τ sig (Elt F) Λ₀ .tc) α}
    (hs : s = barS) (hw : w = 3) (hk : St X K c 0 0 0 0 0 ⊢ WP c (k ⟨⟩) Q) :
    Pre X K c 3 ⊢ WP c (.op (.semWait s w) k) Q := by
  subst hs hw
  unfold Pre
  iintro ⟨#He, ⟨%W, HO⟩, Hc, Hat, -, HS, HR, HK, HL, HY, HX⟩
  rw [owedB_end]
  ihave He₁ := (env_bar X K c) $$ He
  icases He₁ with ⟨#Hi, #Hr⟩
  iapply (Rounds.wp_wait_rest_token 𝒱₀ ER (sched X) (c : Thread nD τ) none (κ := K (c, none))
      (wpE_semWait_eq 𝒱₀ (c : Thread nD τ) none Set.univ) (Set.mem_univ _) () (O := owed c 0) (W := W) (R := 0) (m := 0) (T := ∅)
      (by rw [expect_bar])) $$ [Hc HO Hat]
  · isplitr; · iexact Hi
    isplitl [Hc]; · iexact Hc
    isplitl [HO]; · iexact HO
    isplitr
    · iapply (env_barWait X K c) $$ He
    iexact Hat
  iintro ⟨HO, Hat, -, Hpay⟩
  ihave Hp := (Entails.of_eq (rest_bar X c)) $$ Hpay
  imod (Rounds.cell_close ER (sched X) (Set.mem_univ (K (c, none))) (fun h => h) (R := 0 + 1) (duties_later X (barCell c))) $$ [Hat] with Hz
  · isplitr; · iexact Hi
    iexact Hat
  iapply hk
  unfold St
  isplitr; · iexact He
  isplitl [HO]; · iexists _; iexact HO
  isplitl [Hp HS]
  · iapply (targets_of_bar c)
    isplitl [Hp]; · iexact Hp
    iexact HS
  isplitl [HR]; · iexact HR
  isplitl [HK]; · iexact HK
  isplitl [HL]; · iexact HL
  isplitl [HY]; · iexact HY
  isplitl [HX]; · iexact HX
  iexact Hz

/-! ## The operations in the kernel's order -/

/-- The `n`-th copy started, the `n`-th received, and the `n`-th whose source is waited for. -/
def sAt (n : ℕ) : Xfer := sOrder.getD n (x 0)
/-- The copy whose arrival is waited for at place `n`. -/
def rAt (n : ℕ) : Xfer := rOrder.getD n (x 0)
/-- The copy whose source is waited for at place `n`. -/
def dAt (n : ℕ) : Xfer := dOrder.getD n (x 0)
/-- The `n`-th slot that a device fills itself. -/
def fAt (n : ℕ) : Fin 12 := Fin.ofNat 12 n

/-- The copy started at place `n` has place `n` among the starts. -/
theorem sPos_at (n : ℕ) (h : n < 32) : sPos (sAt n) = n := by
  have : ∀ n : Fin 32, sPos (sAt n.val) = n.val := by decide +kernel
  exact this ⟨n, h⟩
/-- The copy whose arrival is waited for at place `n` has place `n` among the arrivals. -/
theorem rPos_at (n : ℕ) (h : n < 32) : rPos (rAt n) = n := by
  have : ∀ n : Fin 32, rPos (rAt n.val) = n.val := by decide +kernel
  exact this ⟨n, h⟩
/-- The copy whose source is waited for at place `n` has place `n` among the sources. -/
theorem dPos_at (n : ℕ) (h : n < 32) : dPos (dAt n) = n := by
  have : ∀ n : Fin 32, dPos (dAt n.val) = n.val := by decide +kernel
  exact this ⟨n, h⟩

section Next
variable {c : Dev nD} {ns na nr nd nw : ℕ} {α : Type}

/-- The next copy starts. -/
theorem next_send {Q : α → sProp 𝕄} (h : na < 32) (hr : ready ns nr (par (sAt na)))
    {n : Dev nD} {src dst : Memref sig .tc .vmem S64x512 .bf16} {s₁ s₂ : DmaSem sig}
    {hsc : dst.view.ref.isScScratch = false} {hsrc : src.view.WordExact} {hdst : dst.view.WordExact}
    {hsem : DmaTarget.Typed .vmem (.dma s₂) (.remote (Dev.tc n : Thread nD τ) dst (.dma s₁) hsc)}
    {k : PUnit → Prog (TpuEff nD τ sig (Elt F) Λ₀ .tc) α}
    (hn : n = across (dir (sAt na)) c) (h₁ : s₁ = semOf (sAt na, false)) (h₂ : s₂ = semOf (sAt na, true))
    (hs : src = slotM (par (sAt na))) (hd : dst = slotM (rx (sAt na)))
    (hk : St X K c ns (na + 1) nr 0 nw ⊢ WP c (k ⟨⟩) Q) :
    St X K c ns na nr 0 nw ⊢ WP c (.op (.enqueueDma src (.remote (Dev.tc n : Thread nD τ) dst (.dma s₁) hsc) (.dma s₂) hsrc hdst hsem) k) Q :=
  st_send X K (sAt na) (sPos_at na h) hr hn h₁ h₂ hs hd hk

/-- The next arrival is waited for. -/
theorem next_recv {Q : α → sProp 𝕄} (h : nr < 32) (hm : ∀ u, na ≤ sPos u → hop (rAt nr) < hop u) (hu : ∀ u, par u = rx (rAt nr) → na ≤ sPos u)
    {src dst : Memref sig .tc .vmem S64x512 .bf16} {s : DmaSem sig} {hsrc : src.view.WordExact} {hdst : dst.view.WordExact}
    {k : PUnit → Prog (TpuEff nD τ sig (Elt F) Λ₀ .tc) α} (hs : s = semOf (rAt nr, true)) (hd : dst.view.dmaCredit = N)
    (hk : St X K c ns na (nr + 1) 0 nw ⊢ WP c (k ⟨⟩) Q) :
    St X K c ns na nr 0 nw ⊢ WP c (.op (.waitDma2 s src dst hsrc hdst) k) Q :=
  st_recv X K (rAt nr) (rPos_at nr h) hm hu hs hd hk

/-- The next source is waited for, once everything has arrived. -/
theorem next_drain {Q : α → sProp 𝕄} (h : nd < 32) (hr : ready ns 32 (par (dAt nd)))
    {src dst : Memref sig .tc .vmem S64x512 .bf16} {s : DmaSem sig} {hsrc : src.view.WordExact} {hdst : dst.view.WordExact}
    {k : PUnit → Prog (TpuEff nD τ sig (Elt F) Λ₀ .tc) α} (hs : s = semOf (dAt nd, false)) (hd : dst.view.dmaCredit = N)
    (hk : St X K c ns 32 32 (nd + 1) nw ⊢ WP c (k ⟨⟩) Q) :
    St X K c ns 32 32 nd nw ⊢ WP c (.op (.waitDma2 s src dst hsrc hdst) k) Q :=
  st_drain X K (dAt nd) (dPos_at nd h) hr hs hd hk

omit [FloatOps F] in
/-- A vector whose cast to a slot's shape is known is the cast back. -/
theorem cast_back {v : S1x64x512.Idx → Elt F .bf16} {w : S64x512.Idx → Elt F .bf16}
    (h : shapeCast S64x512 v shapeCasts_S1x64x512_S64x512 = w) : v = shapeCast S1x64x512 w shapeCasts_S64x512_S1x64x512 := by
  rw [← h, shapeCast_shapeCast]

/-- The source slot of the next block's copy is read. -/
theorem next_load_src {Q : α → sProp 𝕄} (h : ns = 12) (hr : ready ns nr (par (rAt nw))) {off : Fin 3 → ℕ}
    {inb : ∀ a, off a + S1x64x512.size a ≤ S12x64x512.size a}
    {hl : (Memref.whole cc0_scratch0).view.LoadsAt (Rect.unit (s := S12x64x512) off S1x64x512.size inb).toLoadRect}
    {k : (S1x64x512.Idx → Elt F .bf16) → Prog (TpuEff nD τ sig (Elt F) Λ₀ .tc) α}
    (hs : slotM (par (rAt nw)) = ((Memref.whole cc0_scratch0).slice (Rect.unit (s := S12x64x512) off S1x64x512.size inb) (fun _ => rfl)).squeeze S64x512 squeezes_S1x64x512_S64x512)
    (hk : St X K c ns na nr nd nw ⊢ WP c (k (shapeCast S1x64x512 (slotVal X c (par (rAt nw))) shapeCasts_S64x512_S1x64x512)) Q) :
    St X K c ns na nr nd nw ⊢ WP c (.op (.load (Memref.whole cc0_scratch0) (Rect.unit (s := S12x64x512) off S1x64x512.size inb).toLoadRect hl) k) Q :=
  st_load X K (par (rAt nw)) hr hs fun v hv => by rw [cast_back hv]; exact hk

/-- The rows received for the next block are read. -/
theorem next_load_got {Q : α → sProp 𝕄} (hr : ready ns nr (rx (rAt nw))) {n : ℕ} {m : Memref sig .tc .vmem ⟨3, ![n, 64, 512]⟩ .bf16} {off : Fin 3 → ℕ}
    {inb : ∀ a, off a + S1x64x512.size a ≤ (⟨3, ![n, 64, 512]⟩ : Shape).size a}
    {hl : m.view.LoadsAt (Rect.unit (s := ⟨3, ![n, 64, 512]⟩) off S1x64x512.size inb).toLoadRect}
    {k : (S1x64x512.Idx → Elt F .bf16) → Prog (TpuEff nD τ sig (Elt F) Λ₀ .tc) α}
    (hs : slotM (rx (rAt nw)) = (m.slice (Rect.unit (s := ⟨3, ![n, 64, 512]⟩) off S1x64x512.size inb) (fun _ => rfl)).squeeze S64x512 squeezes_S1x64x512_S64x512)
    (hk : St X K c ns na nr nd nw ⊢ WP c (k (shapeCast S1x64x512 (slotVal X c (rx (rAt nw))) shapeCasts_S64x512_S1x64x512)) Q) :
    St X K c ns na nr nd nw ⊢ WP c (.op (.load m (Rect.unit (s := ⟨3, ![n, 64, 512]⟩) off S1x64x512.size inb).toLoadRect hl) k) Q :=
  st_load X K (rx (rAt nw)) hr hs fun v hv => by rw [cast_back hv]; exact hk

/-- The next slot to be filled is read, whatever is there. -/
theorem next_load_any {Q : α → sProp 𝕄} (h : ns < 12) {off : Fin 3 → ℕ}
    {inb : ∀ a, off a + S1x64x512.size a ≤ S12x64x512.size a}
    {hl : (Memref.whole cc0_scratch0).view.LoadsAt (Rect.unit (s := S12x64x512) off S1x64x512.size inb).toLoadRect}
    {k : (S1x64x512.Idx → Elt F .bf16) → Prog (TpuEff nD τ sig (Elt F) Λ₀ .tc) α}
    (hs : slotM (sb (fAt ns)) = ((Memref.whole cc0_scratch0).slice (Rect.unit (s := S12x64x512) off S1x64x512.size inb) (fun _ => rfl)).squeeze S64x512 squeezes_S1x64x512_S64x512)
    (hk : ∀ v, St X K c ns na nr nd nw ⊢ WP c (k v) Q) :
    St X K c ns na nr nd nw ⊢ WP c (.op (.load (Memref.whole cc0_scratch0) (Rect.unit (s := S12x64x512) off S1x64x512.size inb).toLoadRect hl) k) Q :=
  st_load_any X K (fAt ns) (le_of_eq (Nat.mod_eq_of_lt h).symm) hs hk

/-- The next slot is filled. -/
theorem next_fill {Q : α → sProp 𝕄} (h : ns < 12) (hu : ∀ u, par u = sb (fAt ns) → na ≤ sPos u) {off : Fin 3 → ℕ}
    {inb : ∀ a, off a + S1x64x512.size a ≤ S12x64x512.size a} {w : S1x64x512.Idx → Elt F .bf16}
    {hx : ((Memref.whole cc0_scratch0).access (Rect.unit (s := S12x64x512) off S1x64x512.size inb)).Stores Finset.univ}
    {hm : (Finset.univ : Finset (Rect.unit (s := S12x64x512) off S1x64x512.size inb).shape.Idx) = Finset.univ
      ∨ ∀ a, (Rect.unit (s := S12x64x512) off S1x64x512.size inb).stride a = 1}
    {k : PUnit → Prog (TpuEff nD τ sig (Elt F) Λ₀ .tc) α}
    (hs : slotM (sb (fAt ns)) = ((Memref.whole cc0_scratch0).slice (Rect.unit (s := S12x64x512) off S1x64x512.size inb) (fun _ => rfl)).squeeze S64x512 squeezes_S1x64x512_S64x512)
    (hw : w = shapeCast S1x64x512 (rowsOf (X c) (blk c (x (fAt ns)))) shapeCasts_S64x512_S1x64x512)
    (hk : St X K c (ns + 1) na nr 0 nw ⊢ WP c (k ⟨⟩) Q) :
    St X K c ns na nr 0 nw ⊢ WP c (.op (.store (Memref.whole cc0_scratch0) (Rect.unit (s := S12x64x512) off S1x64x512.size inb) w Finset.univ hx hm) k) Q :=
  st_fill X K (fAt ns) (Nat.mod_eq_of_lt h) hu hs (by rw [hw, shapeCast_shapeCast]; rfl) hk

/-- The rows for the next slot are read. -/
theorem next_load_fill {Q : α → sProp 𝕄} (h : ns < 12) {off : Fin 2 → ℕ} {inb : ∀ a, off a + S64x512.size a ≤ S2048x512.size a}
    {hl : xM.view.LoadsAt (Rect.unit (s := S2048x512) off S64x512.size inb).toLoadRect}
    {k : (S64x512.Idx → Elt F .bf16) → Prog (TpuEff nD τ sig (Elt F) Λ₀ .tc) α}
    (ho : off = rowOff (blk c (x (fAt ns)))) (hk : St X K c ns na nr nd nw ⊢ WP c (k (rowsOf (X c) (blk c (x (fAt ns))))) Q) :
    St X K c ns na nr nd nw ⊢ WP c (.op (.load xM (Rect.unit (s := S2048x512) off S64x512.size inb).toLoadRect hl) k) Q :=
  st_load_x X K _ ho hk

/-- The rows of the next block are read. -/
theorem next_load_own {Q : α → sProp 𝕄} (h : ns = 12) {off : Fin 2 → ℕ} {inb : ∀ a, off a + S64x512.size a ≤ S2048x512.size a}
    {hl : xM.view.LoadsAt (Rect.unit (s := S2048x512) off S64x512.size inb).toLoadRect}
    {k : (S64x512.Idx → Elt F .bf16) → Prog (TpuEff nD τ sig (Elt F) Λ₀ .tc) α}
    (ho : off = rowOff (blk c (rAt nw))) (hk : St X K c ns na nr nd nw ⊢ WP c (k (rowsOf (X c) (blk c (rAt nw)))) Q) :
    St X K c ns na nr nd nw ⊢ WP c (.op (.load xM (Rect.unit (s := S2048x512) off S64x512.size inb).toLoadRect hl) k) Q :=
  st_load_x X K _ ho hk

/-- The next block of the result is read, whatever is there. -/
theorem next_load_out {Q : α → sProp 𝕄} (h : nw < 32) {off : Fin 2 → ℕ} {inb : ∀ a, off a + S64x512.size a ≤ S2048x512.size a}
    {hl : oM.view.LoadsAt (Rect.unit (s := S2048x512) off S64x512.size inb).toLoadRect}
    {k : (S64x512.Idx → Elt F .bf16) → Prog (TpuEff nD τ sig (Elt F) Λ₀ .tc) α}
    (ho : off = rowOff (blk c (rAt nw))) (hk : ∀ v, St X K c ns na nr nd nw ⊢ WP c (k v) Q) :
    St X K c ns na nr nd nw ⊢ WP c (.op (.load oM (Rect.unit (s := S2048x512) off S64x512.size inb).toLoadRect hl) k) Q :=
  st_load_out X K (rAt nw) (le_of_eq (rPos_at nw h).symm) ho hk

/-- The first eight blocks are added in the arrays' format, from the slot they were sent from. -/
theorem outVal_narrow (t : Xfer) (h : sPos t < 8) : outVal X c t = addf (slotVal X c (par t)) (slotVal X c (rx t)) := by
  have : ∀ t : Xfer, sPos t < 8 → ∃ i, t = x i := by decide +kernel
  obtain ⟨i, rfl⟩ := this t h
  exact if_pos h

/-- The others are added in the wider format and rounded. -/
theorem outVal_wide (t : Xfer) (h : 8 ≤ sPos t) : outVal X c t
    = truncf .bf16 (addf (extf .f32 (rowsOf (X c) (blk c t)) bitsLt_bf16_f32) (extf .f32 (slotVal X c (rx t)) bitsLt_bf16_f32)) bitsLt_bf16_f32 :=
  if_neg (by omega)

/-- The next block of the result is written, one of the first eight. -/
theorem next_store_narrow {Q : α → sProp 𝕄} (h : nw < 32) (h8 : sPos (rAt nw) < 8)
    {off : Fin 2 → ℕ} {inb : ∀ a, off a + S64x512.size a ≤ S2048x512.size a}
    {w : S64x512.Idx → Elt F .bf16}
    {hx : (oM.access (Rect.unit (s := S2048x512) off S64x512.size inb)).Stores Finset.univ}
    {hm : (Finset.univ : Finset (Rect.unit (s := S2048x512) off S64x512.size inb).shape.Idx) = Finset.univ
      ∨ ∀ a, (Rect.unit (s := S2048x512) off S64x512.size inb).stride a = 1}
    {k : PUnit → Prog (TpuEff nD τ sig (Elt F) Λ₀ .tc) α}
    (ho : off = rowOff (blk c (rAt nw))) (hw : w = addf (slotVal X c (par (rAt nw))) (slotVal X c (rx (rAt nw))))
    (hk : St X K c ns na nr nd (nw + 1) ⊢ WP c (k ⟨⟩) Q) :
    St X K c ns na nr nd nw ⊢ WP c (.op (.store oM (Rect.unit (s := S2048x512) off S64x512.size inb) w Finset.univ hx hm) k) Q :=
  st_store X K (rAt nw) (rPos_at nw h) ho (hw.trans (outVal_narrow X _ h8).symm) hk

/-- The next block of the result is written, one of the others. -/
theorem next_store_wide {Q : α → sProp 𝕄} (h : nw < 32) (h8 : 8 ≤ sPos (rAt nw))
    {off : Fin 2 → ℕ} {inb : ∀ a, off a + S64x512.size a ≤ S2048x512.size a}
    {w : S64x512.Idx → Elt F .bf16}
    {hx : (oM.access (Rect.unit (s := S2048x512) off S64x512.size inb)).Stores Finset.univ}
    {hm : (Finset.univ : Finset (Rect.unit (s := S2048x512) off S64x512.size inb).shape.Idx) = Finset.univ
      ∨ ∀ a, (Rect.unit (s := S2048x512) off S64x512.size inb).stride a = 1}
    {k : PUnit → Prog (TpuEff nD τ sig (Elt F) Λ₀ .tc) α}
    (ho : off = rowOff (blk c (rAt nw)))
    (hw : w = truncf .bf16 (addf (extf .f32 (rowsOf (X c) (blk c (rAt nw))) bitsLt_bf16_f32) (extf .f32 (slotVal X c (rx (rAt nw))) bitsLt_bf16_f32)) bitsLt_bf16_f32)
    (hk : St X K c ns na nr nd (nw + 1) ⊢ WP c (k ⟨⟩) Q) :
    St X K c ns na nr nd nw ⊢ WP c (.op (.store oM (Rect.unit (s := S2048x512) off S64x512.size inb) w Finset.univ hx hm) k) Q :=
  st_store X K (rAt nw) (rPos_at nw h) ho (hw.trans (outVal_wide X _ h8).symm) hk

end Next

/-! ## The whole body -/

/-- The kernel's body on the buffers it is given. -/
abbrev bodyP : Prog (TpuEff nD τ sig (Elt F) Λ₀ .tc) PUnit :=
  cc0_body xM (Memref.isWhole_whole _) oM (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    cc0_scratch5 cc0_scratch6 cc0_scratch7 cc0_scratch8 cc0_scratch9 cc0_scratch10 cc0_scratch11 cc0_scratch12 cc0_scratch13 cc0_scratch14

/-- Asking for the device's number gives the device. -/
theorem wp_device {c : Dev nD} {α : Type} {Q : α → sProp 𝕄} {P : sProp 𝕄} {k : Dev nD → Prog (TpuEff nD τ sig (Elt F) Λ₀ .tc) α}
    (hk : P ⊢ WP c (k c) Q) : P ⊢ WP c (.op .deviceId k) Q := by
  exact hk.trans (Entails.of_eq (wp_deviceId ..).symm)

/-- The rest of the program after a part. -/
theorem wp_seq {c : Dev nD} {α β : Type} {Q : α → sProp 𝕄} {P : sProp 𝕄} {p : Prog (TpuEff nD τ sig (Elt F) Λ₀ .tc) β} {k : β → Prog (TpuEff nD τ sig (Elt F) Λ₀ .tc) α}
    (h : P ⊢ WP c p fun a => WP c (k a) Q) : P ⊢ WP c (p >>= k) Q := by
  unfold WP; rw [wp_bind]; exact h

/-- A part's end. -/
theorem wp_end {c : Dev nD} {α : Type} {Q : α → sProp 𝕄} {P : sProp 𝕄} {a : α} (h : P ⊢ Q a) : P ⊢ WP c (.ret a) Q :=
  h.trans fupd_intro

seal wp St Pre

set_option maxHeartbeats 1600000 in
/-- From the state before the barrier the body runs to the state in which every copy is sent, received and waited for, and
    every block of the result is written. -/
theorem run (c : Dev nD) {Q : PUnit → sProp 𝕄} (hQ : St X K c 12 32 32 32 32 ⊢ WP c (.ret ⟨⟩) Q) : Pre X K c 0 ⊢ WP c bodyP Q := by
  unfold bodyP
  rw [cc0_body_eq_skeleton]
  unfold cc0_body_skel
  simp only [
    k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton,
    k0_part18_eq_skeleton, k0_part19_eq_skeleton, k0_part20_eq_skeleton, k0_part21_eq_skeleton, k0_part22_eq_skeleton,
    k0_part23_eq_skeleton, k0_part24_eq_skeleton, k0_part25_eq_skeleton, k0_part26_eq_skeleton, k0_part27_eq_skeleton,
    k0_part28_eq_skeleton, k0_part29_eq_skeleton, k0_part30_eq_skeleton, k0_part31_eq_skeleton, k0_part32_eq_skeleton,
    k0_part33_eq_skeleton, k0_part34_eq_skeleton, k0_part35_eq_skeleton, k0_part36_eq_skeleton, k0_part37_eq_skeleton,
    k0_part38_eq_skeleton, k0_part39_eq_skeleton, k0_part40_eq_skeleton, k0_part41_eq_skeleton, k0_part42_eq_skeleton,
    k0_part43_eq_skeleton, k0_part44_eq_skeleton, k0_part45_eq_skeleton, k0_part46_eq_skeleton, k0_part47_eq_skeleton,
    k0_part48_eq_skeleton, k0_part49_eq_skeleton, k0_part50_eq_skeleton, k0_part51_eq_skeleton]
  refine wp_seq ?_
  unfold k0_part1_skel
  simp only [Prog.lift, Prog.bind_op, Prog.bind_ret, Prog.pure_eq_ret]
  refine wp_device (wp_end ?_)
  dsimp only
  refine wp_seq ?_
  unfold k0_part2_skel
  simp only [Prog.lift, Prog.bind_op, Prog.bind_ret, Prog.pure_eq_ret, semSignalWord, semWaitWord]
  refine st_signal X K 0 rfl (by clear * - c; revert c; decide +kernel) rfl rfl ?_
  refine st_signal X K 1 rfl (by clear * - c; revert c; decide +kernel) rfl rfl ?_
  refine st_signal X K 2 rfl (by clear * - c; revert c; decide +kernel) rfl rfl ?_
  refine st_barrier X K rfl rfl ?_
  repeat (first
    | refine next_load_fill X K (by decide) (by clear * - c; revert c; decide +kernel) ?_
    | refine next_load_any X K (by decide) rfl fun _ => ?_
    | refine next_fill X K (by decide) (by decide +kernel) rfl ?_ ?_
      · simp only [k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27,
    k0_pay28, k0_pay29, k0_pay30, k0_pay31, k0_pay32, k0_pay33, k0_pay34, k0_pay35, k0_pay36, k0_pay37, k0_pay38, k0_pay39, k0_pay40,
    k0_pay41, k0_pay42, k0_pay43, k0_pay44, k0_pay45, k0_pay46, k0_pay47, k0_pay48, k0_pay49, k0_pay50, shapeCast_shapeCast, shapeCast_self]
    | refine next_send X K (by decide) (by decide +kernel) (by clear * - c; revert c; decide +kernel) rfl rfl rfl rfl ?_
    | refine next_recv X K (by decide) (by decide +kernel) (by decide +kernel) rfl rfl ?_
    | refine next_load_own X K rfl (by clear * - c; revert c; decide +kernel) ?_
    | refine next_load_src X K rfl (by decide +kernel) rfl ?_
    | refine next_load_got X K (by decide +kernel) rfl ?_
    | refine next_load_out X K (by decide) (by clear * - c; revert c; decide +kernel) fun _ => ?_
    | refine next_store_narrow X K (by decide) (by decide +kernel) (by clear * - c; revert c; decide +kernel) ?_ ?_
      · simp only [k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27,
    k0_pay28, k0_pay29, k0_pay30, k0_pay31, k0_pay32, k0_pay33, k0_pay34, k0_pay35, k0_pay36, k0_pay37, k0_pay38, k0_pay39, k0_pay40,
    k0_pay41, k0_pay42, k0_pay43, k0_pay44, k0_pay45, k0_pay46, k0_pay47, k0_pay48, k0_pay49, k0_pay50, shapeCast_shapeCast, shapeCast_self]
    | refine next_store_wide X K (by decide) (by decide +kernel) (by clear * - c; revert c; decide +kernel) ?_ ?_
      · simp only [k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27,
    k0_pay28, k0_pay29, k0_pay30, k0_pay31, k0_pay32, k0_pay33, k0_pay34, k0_pay35, k0_pay36, k0_pay37, k0_pay38, k0_pay39, k0_pay40,
    k0_pay41, k0_pay42, k0_pay43, k0_pay44, k0_pay45, k0_pay46, k0_pay47, k0_pay48, k0_pay49, k0_pay50, shapeCast_shapeCast, shapeCast_self]
    | refine next_drain X K (by decide) (by decide +kernel) rfl rfl ?_
    | exact hQ
    | refine wp_end ?_
      try dsimp only
      try refine wp_seq ?_
      try first
        | unfold k0_part1_skel | unfold k0_part2_skel | unfold k0_part3_skel | unfold k0_part4_skel | unfold k0_part5_skel
        | unfold k0_part6_skel | unfold k0_part7_skel | unfold k0_part8_skel | unfold k0_part9_skel | unfold k0_part10_skel
        | unfold k0_part11_skel | unfold k0_part12_skel | unfold k0_part13_skel | unfold k0_part14_skel | unfold k0_part15_skel
        | unfold k0_part16_skel | unfold k0_part17_skel | unfold k0_part18_skel | unfold k0_part19_skel | unfold k0_part20_skel
        | unfold k0_part21_skel | unfold k0_part22_skel | unfold k0_part23_skel | unfold k0_part24_skel | unfold k0_part25_skel
        | unfold k0_part26_skel | unfold k0_part27_skel | unfold k0_part28_skel | unfold k0_part29_skel | unfold k0_part30_skel
        | unfold k0_part31_skel | unfold k0_part32_skel | unfold k0_part33_skel | unfold k0_part34_skel | unfold k0_part35_skel
        | unfold k0_part36_skel | unfold k0_part37_skel | unfold k0_part38_skel | unfold k0_part39_skel | unfold k0_part40_skel
        | unfold k0_part41_skel | unfold k0_part42_skel | unfold k0_part43_skel | unfold k0_part44_skel | unfold k0_part45_skel
        | unfold k0_part46_skel | unfold k0_part47_skel | unfold k0_part48_skel | unfold k0_part49_skel | unfold k0_part50_skel
        | unfold k0_part51_skel
      try simp only [Prog.lift, Prog.bind_op, Prog.bind_ret, Prog.pure_eq_ret])

end Cert.Exchange
-- ==== Proof.Ends.lean ====
/-
# The two ends of the run

At its start the kernel holds its five scratch buffers and its result's buffer whole, at any contents; at its end it gives
them back whole. The run itself holds them slot by slot and block by block. Here are the conversions.
-/
module

public import proofs.«01_k».proof.Proof.Run
public import Idealize.ShloMosaic.Lib.MemrefSat

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Xfer Slot

variable {F : FTy → Type} [FloatOps F]

local notation "𝕄" => MT nD τ sig Unit (Elt F) ℕ UU ℕ

/-! ## A buffer and its slots -/

/-- A buffer held whole at some contents. -/
abbrev someWhole (c : Dev nD) (b : Ref sig .tc) : sProp 𝕄 :=
  iprop(∃ f : Buf (Elt F) ((c : Thread nD τ).loc b), ((c : Thread nD τ).loc b) ↦{fullShare} f)

/-- A slot held at some contents. -/
abbrev someSlot (c : Dev nD) (s : Slot) : sProp 𝕄 := iprop(∃ v, owns (c : Thread nD τ) (slotM s) fullShare v)

omit [FloatOps F] in
/-- A region owned with known contents is owned with some contents. -/
theorem owns_some (c : Dev nD) {s : Shape} (M : Memref sig .tc .vmem s .bf16) (v : s.Idx → Elt F .bf16) :
    (owns (c : Thread nD τ) M fullShare v : sProp 𝕄) ⊢ iprop(∃ v, owns (c : Thread nD τ) M fullShare v) := by
  iintro H; iexists v; iexact H

omit [FloatOps F] in
/-- A buffer held whole, and its whole memref's elements. -/
theorem pts_whole (c : Dev nD) (b : Ref sig .tc) (f : Buf (Elt F) ((c : Thread nD τ).loc b)) :
    (((c : Thread nD τ).loc b) ↦{fullShare} f : sProp 𝕄)
      = ((Memref.whole b).view.loc (c : Thread nD τ) ↦[(Memref.whole b).view.set]{fullShare} f) := by
  show _ = (((c : Thread nD τ).loc b) ↦[(View.whole b).set]{fullShare} f)
  rw [View.set_whole]

omit [FloatOps F] in
/-- Owning a memref is owning it squeezed, -/
theorem owns_squeeze (c : Dev nD) {s s' : Shape} (M : Memref sig .tc .vmem s .bf16) (h : s.Squeezes s') :
    iprop(∃ v, owns (c : Thread nD τ) M fullShare v) ⊢ (iprop(∃ v, owns (c : Thread nD τ) (M.squeeze s' h) fullShare v) : sProp 𝕄) := by
  unfold owns
  iintro ⟨%v, %f, %hf, H⟩
  iexists _, f
  isplitr; · ipureintro; rfl
  iapply (Entails.of_eq (by
    show (M.view.loc (c : Thread nD τ) ↦[M.view.set]{fullShare} f : sProp 𝕄) = (M.view.loc (c : Thread nD τ) ↦[(M.view.reshape s' h.numel_eq).set]{fullShare} f)
    rw [View.set_reshape]))
  iexact H

omit [FloatOps F] in
/-- A region owned in its squeezed shape is owned in its own shape, whatever its contents. -/
theorem owns_unsqueeze (c : Dev nD) {s s' : Shape} (M : Memref sig .tc .vmem s .bf16) (h : s.Squeezes s') :
    iprop(∃ v, owns (c : Thread nD τ) (M.squeeze s' h) fullShare v) ⊢ (ownsSat (c : Thread nD τ) M fullShare (fun _ => True) : sProp 𝕄) := by
  unfold owns ownsSat
  iintro ⟨%v, %f, %hf, H⟩
  iexists f
  isplitr; · ipureintro; trivial
  iapply (Entails.of_eq (by
    show (M.view.loc (c : Thread nD τ) ↦[(M.view.reshape s' h.numel_eq).set]{fullShare} f : sProp 𝕄) = (M.view.loc (c : Thread nD τ) ↦[M.view.set]{fullShare} f)
    rw [View.set_reshape]))
  iexact H

section Slots
variable {n : ℕ} (hinb : ∀ i : Fin n, ∀ a, (![i.val, 0, 0] : Fin 3 → ℕ) a + S1x64x512.size a ≤ (⟨3, ![n, 64, 512]⟩ : Shape).size a)

/-- The rectangle of slot `i` in a buffer of `n` slots. -/
abbrev slotRect (i : Fin n) : Rect (⟨3, ![n, 64, 512]⟩ : Shape) := Rect.unit ![i.val, 0, 0] S1x64x512.size (hinb i)

/-- A slot of a buffer of `n`. -/
abbrev slotIn (M : Memref sig .tc .vmem ⟨3, ![n, 64, 512]⟩ .bf16) (i : Fin n) : Memref sig .tc .vmem S64x512 .bf16 :=
  (M.slice (slotRect hinb i) (fun _ => rfl)).squeeze S64x512 squeezes_S1x64x512_S64x512

/-- Two slots of a buffer share no element. -/
theorem slot_disjoint (i j : Fin n) (h : i ≠ j) : Disjoint (slotRect hinb i).set (slotRect hinb j).set :=
  Ring.lead_disjoint (s := ⟨3, ![n, 64, 512]⟩) (0 : Fin 3) 1 (fun i : Fin n => ![i.val, 0, 0]) S1x64x512.size hinb (fun b => (Nat.one_mul _).symm) rfl i j h

/-- The slots make up the buffer. -/
theorem slot_cover : (Finset.univ : Finset (Fin n)).biUnion (fun i => (slotRect hinb i).set) = Finset.univ :=
  Ring.lead_cover (s := ⟨3, ![n, 64, 512]⟩) (0 : Fin 3) 1 (fun i : Fin n => ![i.val, 0, 0]) S1x64x512.size hinb (fun b => (Nat.one_mul _).symm)
    (fun b a ha => by fin_cases a <;> first | exact absurd rfl ha | rfl) rfl
    (fun a ha => by fin_cases a <;> first | exact absurd rfl ha | rfl) (Nat.mul_one n)

omit [FloatOps F] in
/-- A buffer held whole is its slots, each at some contents, -/
theorem slots_split (M : Memref sig .tc .vmem ⟨3, ![n, 64, 512]⟩ .bf16) (c : Dev nD) (g : M.view.ty.Contents (Elt F)) :
    (M.view.loc (c : Thread nD τ) ↦[M.view.set]{fullShare} g : sProp 𝕄)
      ⊢ bigSep Finset.univ fun i : Fin n => iprop(∃ v, owns (c : Thread nD τ) (slotIn hinb M i) fullShare v) := by
  rw [pointsTo_rects (c : Thread nD τ) M fullShare (slotRect hinb) (fun _ _ => rfl) (slot_disjoint hinb) (slot_cover hinb) g]
  refine bigSep_mono fun i _ => ?_
  exact (owns_some c _ _).trans (owns_squeeze c _ _)

/-- All slots of a buffer together, at any contents, are the buffer. -/
theorem slots_join (M : Memref sig .tc .vmem ⟨3, ![n, 64, 512]⟩ .bf16) (c : Dev nD) :
    (bigSep Finset.univ fun i : Fin n => iprop(∃ v, owns (c : Thread nD τ) (slotIn hinb M i) fullShare v))
      ⊢ (iprop(∃ g, M.view.loc (c : Thread nD τ) ↦[M.view.set]{fullShare} g) : sProp 𝕄) := by
  refine (bigSep_mono fun i _ => owns_unsqueeze c _ _).trans ?_
  refine (ownsSat_of_rects (c : Thread nD τ) M fullShare (slotRect hinb) (fun _ _ => rfl) (slot_disjoint hinb) (slot_cover hinb) (fun _ _ => True)).trans ?_
  unfold ownsSat
  iintro ⟨%f, -, H⟩; iexists f; iexact H

end Slots

/-! ## Conjunctions over slots and over copies -/

/-- A slot is one the device fills itself or one of a received copy. -/
def slotE : Fin 12 ⊕ Xfer ≃ Slot where
  toFun | .inl i => sb i | .inr t => rx t
  invFun | sb i => .inl i | rx t => .inr t
  left_inv := by rintro (i | t) <;> rfl
  right_inv := by rintro (i | t) <;> rfl

/-- The copies, sorted by kind. -/
def xferE : Fin 12 ⊕ Fin 7 ⊕ Fin 7 ⊕ Fin 3 ⊕ Fin 3 ≃ Xfer where
  toFun | .inl i => x i | .inr (.inl i) => y i | .inr (.inr (.inl i)) => z i | .inr (.inr (.inr (.inl i))) => yr i | .inr (.inr (.inr (.inr i))) => zr i
  invFun | x i => .inl i | y i => .inr (.inl i) | z i => .inr (.inr (.inl i)) | yr i => .inr (.inr (.inr (.inl i))) | zr i => .inr (.inr (.inr (.inr i)))
  left_inv := by rintro (i | i | i | i | i) <;> rfl
  right_inv := by rintro (i | i | i | i | i) <;> rfl

omit [FloatOps F] in
/-- Nothing, however many times, is nothing. -/
theorem bigSep_none {A : Type} (s : Finset A) : (bigSep s fun _ => iprop(emp)) = (iprop(emp) : sProp 𝕄) := bigSep_emp_const s

omit [FloatOps F] in
/-- A conjunction over the slots, split into those the device fills and those it receives into. -/
theorem bigSep_slot (Φ : Slot → sProp 𝕄) :
    bigSep Finset.univ Φ = iprop((bigSep Finset.univ fun i => Φ (sb i)) ∗ bigSep Finset.univ fun t => Φ (rx t)) := by
  rw [bigSep_univ_equiv slotE Φ, bigSep_univ_sum]; rfl

omit [FloatOps F] in
/-- A conjunction over the copies, split by kind. -/
theorem bigSep_xfer (Φ : Xfer → sProp 𝕄) :
    bigSep Finset.univ Φ = iprop((bigSep Finset.univ fun i => Φ (x i)) ∗ (bigSep Finset.univ fun i => Φ (y i)) ∗ (bigSep Finset.univ fun i => Φ (z i))
      ∗ (bigSep Finset.univ fun i => Φ (yr i)) ∗ bigSep Finset.univ fun i => Φ (zr i)) := by
  rw [bigSep_univ_equiv xferE Φ, bigSep_univ_sum, bigSep_univ_sum, bigSep_univ_sum, bigSep_univ_sum]; rfl

omit [FloatOps F] in
/-- A conjunction over six, as two over three. -/
theorem bigSep_six (Φ : Fin 6 → sProp 𝕄) :
    bigSep Finset.univ Φ = iprop((bigSep Finset.univ fun i : Fin 3 => Φ ⟨i.val, by omega⟩) ∗ bigSep Finset.univ fun i : Fin 3 => Φ ⟨3 + i.val, by omega⟩) := by
  rw [bigSep_univ_equiv (finSumFinEquiv (m := 3) (n := 3)) Φ, bigSep_univ_sum]; rfl

omit [FloatOps F] in
/-- A conjunction over the semaphores, split into those of the sources and those of the arrivals. -/
theorem bigSep_key (Φ : Key → sProp 𝕄) :
    bigSep Finset.univ Φ = iprop((bigSep Finset.univ fun t => Φ (t, false)) ∗ bigSep Finset.univ fun t => Φ (t, true)) := by
  rw [bigSep_univ_prod, ← bigSep_sep']
  exact bigSep_congr fun t _ => bigSep_univ_eq_bigSepL [false, true] (by decide) (by decide) _

/-! ## The scratch buffers -/

omit [FloatOps F] in
/-- The first scratch buffer is cut into the slots the device fills itself. -/
theorem sb_split (c : Dev nD) : someWhole (F := F) c cc0_scratch0 ⊢ bigSep Finset.univ fun i => someSlot c (sb i) := by
  iintro ⟨%f, H⟩
  iapply ((Entails.of_eq (pts_whole c cc0_scratch0 f)).trans (slots_split (F := F) inb12 (Memref.whole cc0_scratch0) c f)); iexact H

omit [FloatOps F] in
/-- The other four scratch buffers are cut into the slots received into. -/
theorem rx_split (c : Dev nD) :
    iprop(someWhole (F := F) c cc0_scratch1 ∗ someWhole c cc0_scratch2 ∗ someWhole c cc0_scratch3 ∗ someWhole c cc0_scratch4)
      ⊢ bigSep Finset.univ fun t => someSlot c (rx t) := by
  rw [bigSep_xfer]
  iintro ⟨⟨%f₁, H₁⟩, ⟨%f₂, H₂⟩, ⟨%f₃, H₃⟩, ⟨%f₄, H₄⟩⟩
  isplitl [H₁]
  · iapply ((Entails.of_eq (pts_whole c cc0_scratch1 f₁)).trans (slots_split (F := F) inb12 (Memref.whole cc0_scratch1) c f₁)); iexact H₁
  isplitl [H₂]
  · iapply ((Entails.of_eq (pts_whole c cc0_scratch2 f₂)).trans (slots_split (F := F) inb7 (Memref.whole cc0_scratch2) c f₂)); iexact H₂
  isplitl [H₃]
  · iapply ((Entails.of_eq (pts_whole c cc0_scratch3 f₃)).trans (slots_split (F := F) inb7 (Memref.whole cc0_scratch3) c f₃)); iexact H₃
  ihave H := ((Entails.of_eq (pts_whole c cc0_scratch4 f₄)).trans
    ((slots_split (F := F) inb6 (Memref.whole cc0_scratch4) c f₄).trans (Entails.of_eq (bigSep_six _)))) $$ H₄
  iexact H

/-- The slots of a buffer are the buffer. -/
theorem whole_of_slots {n : ℕ} (hinb : ∀ i : Fin n, ∀ a, (![i.val, 0, 0] : Fin 3 → ℕ) a + S1x64x512.size a ≤ (⟨3, ![n, 64, 512]⟩ : Shape).size a)
    (M : Memref sig .tc .vmem ⟨3, ![n, 64, 512]⟩ .bf16) (c : Dev nD) (b : Ref sig .tc)
    (h : ∀ f, (M.view.loc (c : Thread nD τ) ↦[M.view.set]{fullShare} f : sProp 𝕄) ⊢ someWhole c b) :
    (bigSep Finset.univ fun i : Fin n => iprop(∃ v, owns (c : Thread nD τ) (slotIn hinb M i) fullShare v)) ⊢ someWhole (F := F) c b := by
  refine (slots_join hinb M c).trans ?_
  iintro ⟨%f, H⟩; iapply (h f); iexact H

/-- A buffer held with known contents is held with some contents. -/
theorem whole_intro (c : Dev nD) (b : Ref sig .tc) (f : Buf (Elt F) ((c : Thread nD τ).loc b)) :
    ((Memref.whole b).view.loc (c : Thread nD τ) ↦[(Memref.whole b).view.set]{fullShare} f : sProp 𝕄) ⊢ someWhole c b := by
  iintro H; iexists f; iapply (Entails.of_eq (pts_whole c b f).symm); iexact H

/-- The twelve slots the device fills make up the first scratch buffer. -/
theorem sb_join (c : Dev nD) : (bigSep Finset.univ fun i => someSlot c (sb i)) ⊢ someWhole (F := F) c cc0_scratch0 :=
  whole_of_slots inb12 (Memref.whole cc0_scratch0) c cc0_scratch0 (whole_intro c cc0_scratch0)

/-- The slots of the received copies make up the other four. -/
theorem rx_join (c : Dev nD) :
    (bigSep Finset.univ fun t => someSlot c (rx t))
      ⊢ iprop(someWhole (F := F) c cc0_scratch1 ∗ someWhole c cc0_scratch2 ∗ someWhole c cc0_scratch3 ∗ someWhole c cc0_scratch4) := by
  have h₁ : (bigSep Finset.univ fun i => someSlot c (rx (x i))) ⊢ someWhole (F := F) c cc0_scratch1 :=
    whole_of_slots inb12 (Memref.whole cc0_scratch1) c cc0_scratch1 (whole_intro c cc0_scratch1)
  have h₂ : (bigSep Finset.univ fun i => someSlot c (rx (y i))) ⊢ someWhole (F := F) c cc0_scratch2 :=
    whole_of_slots inb7 (Memref.whole cc0_scratch2) c cc0_scratch2 (whole_intro c cc0_scratch2)
  have h₃ : (bigSep Finset.univ fun i => someSlot c (rx (z i))) ⊢ someWhole (F := F) c cc0_scratch3 :=
    whole_of_slots inb7 (Memref.whole cc0_scratch3) c cc0_scratch3 (whole_intro c cc0_scratch3)
  have h₄ : iprop((bigSep Finset.univ fun i => someSlot c (rx (yr i))) ∗ bigSep Finset.univ fun i => someSlot c (rx (zr i))) ⊢ someWhole (F := F) c cc0_scratch4 :=
    (Entails.of_eq (bigSep_six fun i => iprop(∃ v, owns (c : Thread nD τ) (of6 (Memref.whole cc0_scratch4) i) fullShare v)).symm).trans
      (whole_of_slots inb6 (Memref.whole cc0_scratch4) c cc0_scratch4 (whole_intro c cc0_scratch4))
  rw [bigSep_xfer]
  iintro ⟨H₁, H₂, H₃, H₄⟩
  isplitl [H₁]; · iapply h₁; iexact H₁
  isplitl [H₂]; · iapply h₂; iexact H₂
  isplitl [H₃]; · iapply h₃; iexact H₃
  iapply h₄; iexact H₄

/-! ## The result's blocks -/

/-- Two blocks of rows share no element. -/
theorem rows_disjoint (b b' : Fin 32) (h : b ≠ b') : Disjoint (rowRect b).set (rowRect b').set :=
  Ring.lead_disjoint (s := S2048x512) (0 : Fin 2) 64 rowOff S64x512.size rowInb (fun b => rfl) rfl b b' h

/-- The 32 blocks of rows make up the array. -/
theorem rows_cover : (Finset.univ : Finset (Fin 32)).biUnion (fun b => (rowRect b).set) = Finset.univ :=
  Ring.lead_cover (s := S2048x512) (0 : Fin 2) 64 rowOff S64x512.size rowInb (fun b => rfl)
    (fun b a ha => by fin_cases a <;> first | exact absurd rfl ha | rfl) rfl
    (fun a ha => by fin_cases a <;> first | exact absurd rfl ha | rfl) (by decide)

variable (X : Arrays F) (K : Dev nD × Option Key → ℕ)

/-- The whole result at a block's rows is that block. -/
theorem outAll_block (c : Dev nD) (t : Xfer) (j : S64x512.Idx) : outAll X c ((rowRect (blk c t)).emb j) = outVal X c t j := by
  have h0 : (((rowRect (blk c t)).emb j) 0).val = 64 * (blk c t).val + (j 0).val := by
    rw [Rect.emb_apply]; show 64 * (blk c t).val + 1 * (j 0).val = _; rw [Nat.one_mul]
  have h1 : (((rowRect (blk c t)).emb j) 1).val = (j 1).val := by
    rw [Rect.emb_apply]; show 0 + 1 * (j 1).val = _; rw [Nat.one_mul, Nat.zero_add]
  have hj : (j 0).val < 64 := (j 0).isLt
  unfold outAll
  congr 1
  · congr 1
    rw [Equiv.symm_apply_eq]
    refine Fin.ext ?_
    show (((rowRect (blk c t)).emb j) 0).val / 64 = (blk c t).val
    omega
  · funext a
    fin_cases a
    · refine Fin.ext ?_
      show (((rowRect (blk c t)).emb j) 0).val % 64 = (j 0).val
      omega
    · exact Fin.ext h1

/-- The result's buffer at any contents is its blocks; -/
theorem out_split (c : Dev nD) : someWhole (F := F) c cc0_stg1_0 ⊢ bigSep Finset.univ (outPart X c 0) := by
  have h (f : Buf (Elt F) ((c : Thread nD τ).loc cc0_stg1_0)) : (((c : Thread nD τ).loc cc0_stg1_0) ↦{fullShare} f : sProp 𝕄)
      ⊢ bigSep Finset.univ (outPart X c 0) := by
    refine (Entails.of_eq ((pts_whole c cc0_stg1_0 f).trans
      ((pointsTo_rects (c : Thread nD τ) oM fullShare rowRect (fun _ _ => rfl) rows_disjoint rows_cover f).trans (bigSep_univ_equiv (blkE c) _)))).trans ?_
    refine bigSep_mono fun t _ => ?_
    rw [outPart_todo X c t (Nat.zero_le _)]
    exact owns_some c _ _
  iintro ⟨%f, H⟩; iapply (h f); iexact H

/-- The blocks of the result, all written, are the buffer holding the result. -/
theorem out_join (c : Dev nD) :
    bigSep Finset.univ (outPart X c 32) ⊢ (((c : Thread nD τ).loc cc0_stg1_0) ↦{fullShare} (outAll X c) : sProp 𝕄) := by
  refine .trans (Entails.of_eq ?_) ((owns_of_rects (c : Thread nD τ) oM fullShare rowRect (fun _ _ => rfl) rows_disjoint rows_cover (outAll X c)).trans ?_)
  · refine .trans ?_ (bigSep_univ_equiv (blkE c) _).symm
    refine bigSep_congr fun t _ => ?_
    rw [outPart_done X c t (rPos_lt t)]
    exact congrArg _ (funext fun j => (outAll_block X c t j).symm)
  · unfold owns; simp only [Memref.view_whole, View.read_whole, View.set_whole]
    iintro ⟨%f, %hf, H⟩; subst hf; iexact H

/-! ## The start and the end of the run -/

/-- The five scratch buffers at any contents. -/
def scratch (c : Dev nD) : sProp 𝕄 :=
  iprop(someWhole (F := F) c cc0_scratch0 ∗ someWhole c cc0_scratch1 ∗ someWhole c cc0_scratch2 ∗ someWhole c cc0_scratch3 ∗ someWhole c cc0_scratch4)

/-- The duties of its neighbours' barriers that a device pays. -/
def barToks (c : Dev nD) : sProp 𝕄 := bigSep Finset.univ fun d : Fin 3 => dutyTok ER (barCell (across d c)) 0 d

omit [FloatOps F] in
/-- The slots a device receives into go with its three signals. -/
theorem bar_split (c : Dev nD) :
    iprop(barToks (F := F) c ∗ bigSep Finset.univ fun t => someSlot c (rx t)) ⊢ bigSep Finset.univ (barPart (F := F) c 0) := by
  have h : (bigSep Finset.univ fun t => someSlot (F := F) c (rx t)) = bigSep Finset.univ fun d => barPay (F := F) (across d c) d := by
    rw [bigSep_fiberwise Finset.univ dir (fun t => someSlot (F := F) c (rx t)), show Finset.univ.image dir = Finset.univ from by decide +kernel]
    refine bigSep_congr fun d _ => ?_
    unfold barPay
    rw [across_across]
  rw [h]; unfold barToks
  rw [← bigSep_sep']
  refine Entails.of_eq (bigSep_congr fun d _ => ?_)
  unfold barPart; rw [if_pos (Nat.zero_le _)]

omit [FloatOps F] in
/-- Before anything is filled, a device keeps of its own slots some contents. -/
theorem keep_start (c : Dev nD) : (bigSep Finset.univ fun i => someSlot c (sb i)) ⊢ bigSep Finset.univ (keepPart X c 0 0) := by
  rw [bigSep_slot, bigSep_congr (s := Finset.univ) (Φ := fun t => keepPart X c 0 0 (rx t)) (Ψ := fun _ => iprop(emp)) (fun t _ => if_neg (Nat.not_lt_zero _)),
    bigSep_none]
  iintro H
  isplitl [H]; · iexact H
  iempintro

omit [FloatOps F] in
/-- Before anything is filled, a device has no share in hand to lend. -/
theorem lend_start (c : Dev nD) : bigSep Finset.univ (lendPart X c 0 0 0 0) = iprop(emp) := by
  rw [bigSep_congr (s := Finset.univ) (Φ := lendPart X c 0 0 0 0) (Ψ := fun _ => iprop(emp)) fun t _ => if_neg fun h => ?_, bigSep_none]
  have h := h.1
  generalize par t = s at h
  cases s <;> exact absurd h (Nat.not_lt_zero _)

/-- What a device starts from, sorted for the run. -/
theorem pre_intro (c : Dev nD) :
    iprop(env X K ∗ (∃ W, owes (c : Thread nD τ) (owedB c 0) W)
        ∗ (cred (tallyAt (barCell c) () 3) ∗ atPos ER (barCell c) 0 ∅ 0 ∗ barToks c ∗ bigSep Finset.univ (sendRest (F := F) c) ∗ bigSep Finset.univ (recvPart (F := F) c 0))
        ∗ scratch (F := F) c ∗ someWhole (F := F) c cc0_stg1_0 ∗ xPts X c)
      ⊢ Pre X K c 0 := by
  unfold Pre scratch
  iintro ⟨He, HO, ⟨Hc, Hat, HB, HS, HR⟩, ⟨H₀, H₁, H₂, H₃, H₄⟩, HY, HX⟩
  isplitl [He]; · iexact He
  isplitl [HO]; · iexact HO
  isplitl [Hc]; · iexact Hc
  isplitl [Hat]; · iexact Hat
  isplitl [HB H₁ H₂ H₃ H₄]
  · iapply (bar_split (F := F) c)
    isplitl [HB]; · iexact HB
    iapply (rx_split (F := F) c)
    isplitl [H₁]; · iexact H₁
    isplitl [H₂]; · iexact H₂
    isplitl [H₃]; · iexact H₃
    iexact H₄
  isplitl [HS]; · iexact HS
  isplitl [HR]; · iexact HR
  isplitl [H₀]
  · iapply (keep_start X c); iapply (sb_split (F := F) c); iexact H₀
  isplitr
  · rw [lend_start]; iempintro
  isplitl [HY]; · iapply (out_split X c); iexact HY
  iexact HX

omit [FloatOps F] in
/-- Every slot is filled and every part that was lent is back: the slots are whole. -/
theorem slots_back (c : Dev nD) :
    iprop(bigSep Finset.univ (keepPart X c 12 32) ∗ bigSep Finset.univ (lendPart X c 12 32 32 32)) ⊢ bigSep Finset.univ fun s => someSlot (F := F) c s := by
  have hr (s : Slot) : ready 12 32 s := by
    cases s with
    | sb i => exact i.isLt
    | rx t => exact rPos_lt t
  have ha (t : Xfer) : ¬ away 32 32 t := fun h => absurd h.2 (by have := dPos_lt t; omega)
  have hl : bigSep Finset.univ (lendPart X c 12 32 32 32)
      = bigSep Finset.univ fun s => bigSep (kids s) fun t => owns (c : Thread nD τ) (slotM s) (lendShare t) (slotVal X c s) := by
    rw [show (Finset.univ : Finset Xfer) = Finset.univ.biUnion kids from
        (Finset.eq_univ_of_forall fun t => Finset.mem_biUnion.mpr ⟨par t, Finset.mem_univ _, kids_par t⟩).symm,
      bigSep_biUnion_eq Finset.univ kids _ fun s _ s' _ hne => Finset.disjoint_left.mpr fun t h h' => hne ((mem_kids.mp h).symm.trans (mem_kids.mp h'))]
    refine bigSep_congr fun s _ => bigSep_congr fun t ht => ?_
    rw [lendPart_here X c t (hr _) (ha t), mem_kids.mp ht]
  rw [hl, ← bigSep_sep']
  refine bigSep_mono fun s _ => ?_
  rw [keepPart_ready X c s (hr s)]
  exact (share_in c s (slotVal X c s)).trans (owns_some c _ _)

/-- What the run leaves, sorted for the exit. -/
theorem post_elim (c : Dev nD) :
    St X K c 12 32 32 32 32
      ⊢ iprop((∃ W, owes (c : Thread nD τ) 0 W) ∗ scratch (F := F) c ∗ (bigSep Finset.univ fun k => semVal (cell c k) 0) ∗ semVal (barCell c) 0
          ∗ xPts X c ∗ (((c : Thread nD τ).loc cc0_stg1_0) ↦{fullShare} (outAll X c))) := by
  unfold St
  iintro ⟨-, HO, HS, HR, HK, HL, HY, HX, HB⟩
  ihave HO := (Entails.of_eq (congrArg (fun O => iprop(∃ W, owes (c : Thread nD τ) O W)) (owed_end c))) $$ HO
  isplitl [HO]; · iexact HO
  isplitl [HK HL]
  · ihave H := ((slots_back X c).trans (Entails.of_eq (bigSep_slot _))) $$ [HK HL]
    · isplitl [HK]; · iexact HK
      iexact HL
    icases H with ⟨H₀, H⟩
    unfold scratch
    isplitl [H₀]; · iapply (sb_join (F := F) c); iexact H₀
    iapply (rx_join (F := F) c); iexact H
  isplitl [HS HR]
  · rw [bigSep_key]
    isplitl [HS]
    · iapply (Entails.of_eq (bigSep_congr (s := Finset.univ) fun t _ => sendPart_done (F := F) c (na := 32) (nd := 32) t (sPos_lt t) (dPos_lt t))); iexact HS
    iapply (Entails.of_eq (bigSep_congr (s := Finset.univ) fun t _ => recvPart_done (F := F) c (nr := 32) t (rPos_lt t))); iexact HR
  isplitl [HB]; · iexact HB
  isplitl [HX]; · iexact HX
  iapply (out_join X c); iexact HY

end Cert.Exchange

end
-- ==== Proof.Launch.lean ====
/-
# The launch

Every device starts with its share of the exchange's tokens: the positions of its own semaphores, the duties it pays at its
neighbours, and the credit of what its neighbours owe it. From there its body runs; all devices together run to the end,
each result array at the contents the run computes, the arguments unchanged and every semaphore at zero.
-/
module

public import proofs.«01_k».proof.Proof.Ends
public import Idealize.ShloMosaic.Lib.Pipeline.CollectiveSegs

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Xfer Slot

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Every device's array, as the kernel is given it. -/
def arr0 : Arrays F := fun c => (win0_0.blk (0 : Fin 1)).view.read (Elt F) ((s₀ m ρ).mem ((c : Thread nD τ).loc main_arg0))

variable (X : Arrays F)

/-! ## What a device starts from -/

/-- The duties a device pays. -/
def payToks (c : Dev nD) : sProp 𝕄 :=
  iprop(barToks c ∗ (bigSep Finset.univ fun t => dutyTok ER (cell (across (dir t) c) (t, true)) 0 0)
    ∗ bigSep Finset.univ fun t => dutyTok ER (cell c (t, false)) 0 0)

/-- Its positions and those duties. -/
def linear (c : Dev nD) : sProp 𝕄 :=
  iprop((atPos ER (barCell c) 0 ∅ 0 ∗ bigSep Finset.univ fun k => atPos ER (cell c k) 0 ∅ 0) ∗ payToks c)

/-- What the launch gives device `c` of the exchange. -/
def given (c : Dev nD) : sProp 𝕄 := iprop(∃ K, recs X K ∗ linear c)

/-- What a device starts with: its part of the exchange, the credit for its barrier and its arrivals, and the levels. -/
def start (c : Dev nD) : sProp 𝕄 :=
  iprop(given X c ∗ cred (tallyAt (barCell c) () 3) ∗ (bigSep Finset.univ fun t => cred (tallyAt (cell c (t, true)) () N)) ∗ levAts L lv)

/-- The exchange's invariants may be used any number of times. -/
instance recs_persistent (K : Dev nD × Option Key → ℕ) : BI.Persistent (recs X K) := by unfold recs; infer_instance

omit [FloatOps F] in
/-- Sorted for the run. -/
theorem start_sort (c : Dev nD) :
    start X c ⊢ iprop(∃ K, env X K ∗ (cred (tallyAt (barCell c) () 3) ∗ atPos ER (barCell c) 0 ∅ 0 ∗ barToks c
      ∗ bigSep Finset.univ (sendRest (F := F) c) ∗ bigSep Finset.univ (recvPart (F := F) c 0))) := by
  have hr : bigSep Finset.univ (recvPart (F := F) c 0)
      = iprop((bigSep Finset.univ fun t => cred (tallyAt (cell c (t, true)) () N)) ∗ bigSep Finset.univ fun t => atPos ER (cell c (t, true)) 0 ∅ 0) := by
    rw [← bigSep_sep']; exact bigSep_congr fun t _ => recvPart_todo c t (Nat.zero_le _)
  have hs : bigSep Finset.univ (sendRest (F := F) c)
      = iprop((bigSep Finset.univ fun t => dutyTok ER (cell (across (dir t) c) (t, true)) 0 0)
          ∗ (bigSep Finset.univ fun t => dutyTok ER (cell c (t, false)) 0 0) ∗ bigSep Finset.univ fun t => atPos ER (cell c (t, false)) 0 ∅ 0) := by
    rw [← bigSep_sep', ← bigSep_sep']; rfl
  rw [hr, hs]
  unfold start given linear payToks env
  rw [bigSep_key fun k => atPos ER (cell c k) 0 ∅ 0]
  iintro ⟨⟨%K, #HR, ⟨HaB, HaS, HaR⟩, HtB, HtR, HtS⟩, Hc, HcR, #Hl⟩
  iexists K
  isplitr
  · isplitr; · iexact HR
    iexact Hl
  isplitl [Hc]; · iexact Hc
  isplitl [HaB]; · iexact HaB
  isplitl [HtB]; · iexact HtB
  isplitl [HtR HtS HaS]
  · isplitl [HtR]; · iexact HtR
    isplitl [HtS]; · iexact HtS
    iexact HaS
  isplitl [HcR]; · iexact HcR
  iexact HaR

/-! ## The pipeline's proof data -/

/-- Before the body: the device's part of the exchange, and its scratch buffers. -/
def Φ₀ (c : Dev nD) : sProp 𝕄 := iprop(start X c ∗ scratch c)
/-- At the end: the scratch buffers, and every semaphore closed at zero. -/
def Φ₁ (c : Dev nD) : sProp 𝕄 := iprop(scratch c ∗ (bigSep Finset.univ fun k => semVal (cell c k) 0) ∗ semVal (barCell c) 0)

/-- What the pipeline is told: the arrays it starts from, what the body leaves in each window, and what a device holds and owes before and after it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => arr0 m ρ c
    | ⟨1, _⟩ => outAll (arr0 m ρ) c
  Φ t := match t with
    | ⟨0, _⟩ => Φ₀ (arr0 m ρ) c
    | ⟨_ + 1, _⟩ => Φ₁ c
  q _ := fullShare
  owed t := match t with
    | ⟨0, _⟩ => owedB c 0
    | ⟨_ + 1, _⟩ => 0

omit [FloatOps F] in
/-- Owning a whole buffer with contents `Y` is holding the buffer at `Y`. -/
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-! ## The body -/

section Body

/-- A staging buffer holding the contents `Y`. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

/-- What the pipeline gives the body. -/
def bodyPre (c : Dev nD) : sProp 𝕄 :=
  iprop(Φ₀ (arr0 m ρ) c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- What the pipeline takes back from the body. -/
def bodyPost (c : Dev nD) : sProp 𝕄 :=
  iprop(Φ₁ c ∗ (dats m ρ 0 c).owesAt () t0_0.succ ∗ stg c cc0_stg0_0 (arr0 m ρ c) ∗ stg c cc0_stg1_0 (outAll (arr0 m ρ) c))

/-- What the pipeline gives is what the run starts from. -/
theorem pre_of_body (c : Dev nD) : bodyPre m ρ c ⊢ iprop(∃ K, Pre (arr0 m ρ) K c 0) := by
  unfold bodyPre Φ₀
  iintro ⟨⟨Hs, Hscr⟩, Ho, ⟨%d0, %g0, %hg0, Hx⟩, ⟨%d1, %g1, %hg1, Hout⟩⟩
  have hx : g0 = arr0 m ρ c := by rw [hg0]; unfold Dat.before; rw [if_pos (fetch0_0 t0_0)]; rfl
  subst hx
  unfold Dat.owesAt Pipeline.owesWithin
  icases Ho with ⟨%W, %hW, HO⟩
  ihave Hs := (start_sort (arr0 m ρ) c) $$ Hs
  icases Hs with ⟨%K, He, Hs⟩
  iexists K
  iapply (pre_intro (arr0 m ρ) K c)
  isplitl [He]; · iexact He
  isplitl [HO]; · iexists W; iexact HO
  isplitl [Hs]; · iexact Hs
  isplitl [Hscr]; · iexact Hscr
  isplitl [Hout]; · iexists g1; iexact Hout
  iexact Hx

/-- What the run ends with is what the pipeline takes back. -/
theorem body_of_post (K : Dev nD × Option Key → ℕ) (c : Dev nD) : St (arr0 m ρ) K c 12 32 32 32 32 ⊢ bodyPost m ρ c := by
  refine (post_elim (arr0 m ρ) K c).trans ?_
  unfold bodyPost Φ₁ Dat.owesAt Pipeline.owesWithin
  iintro ⟨⟨%W, HO⟩, Hscr, Hk, Hb, Hx, Hy⟩
  isplitl [Hscr Hk Hb]
  · isplitl [Hscr]; · iexact Hscr
    isplitl [Hk]; · iexact Hk
    iexact Hb
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hy

/-- The body runs from what the pipeline gives it to what the pipeline takes back. -/
theorem sound_body (c : Dev nD) : bodyPre m ρ c ⊢ WP c bodyP fun _ => bodyPost m ρ c := by
  refine (pre_of_body m ρ c).trans ?_
  have h (K : Dev nD × Option Key → ℕ) : Pre (arr0 m ρ) K c 0 ⊢ WP c bodyP fun _ => bodyPost m ρ c :=
    run (arr0 m ρ) K c (wp_end (body_of_post m ρ K c))
  iintro ⟨%K, H⟩
  iapply (h K); iexact H

set_option maxRecDepth 100000 in
/-- The pipeline's obligation on a device's body. -/
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_whole_eq]
  exact sound_body m ρ c

end Body

/-! ## The semaphores' set-up -/

/-- The kernel's own semaphores. -/
abbrev osem : Key → SemLoc sig := fun k => .dma (semOf k)

/-- The copies' semaphores are the kernel's own, different from each other and from the pipeline's. -/
theorem ownSemFacts : Pipeline.OwnSemFacts cfg0.spec osem where
  isScoped := by decide +kernel
  inj k k' h := semOf_inj (by injection h)
  disj := by decide +kernel

/-- Every array is held in full. -/
theorem share_eq (c : Dev nD) (w : Fin cfg0.W) : (dats m ρ 0 c).share w = fullShare := by unfold Dat.share; split <;> rfl

/-- Different names are different semaphores. -/
theorem kcell_injective : Function.Injective kcell := by
  rintro ⟨c, k⟩ ⟨c', k'⟩ h
  cases k <;> cases k'
  · have h1 : c = c' := congrArg (fun g : GSem nD τ sig => g.1.1) h
    rw [h1]
  · exact absurd (congrArg Prod.snd h) (by intro h; cases h)
  · exact absurd (congrArg Prod.snd h) (by intro h; cases h)
  · rename_i k k'
    have h1 : c = c' := congrArg (fun g : GSem nD τ sig => g.1.1) h
    have h2 : SemLoc.dma (semOf k) = SemLoc.dma (semOf k') := congrArg Prod.snd h
    have h3 : semOf k = semOf k' := by injection h2
    rw [h1, semOf_inj h3]

/-- All devices' semaphores of the exchange. -/
def allCells : Finset (GSem nD τ sig) := Finset.univ.map ⟨kcell, kcell_injective⟩

/-- A device's duties: three at its barrier, one at each of its copies' semaphores. -/
def tokOf : Dev nD × (Fin 3 ⊕ Key) → GSem nD τ sig × ℕ × Fin 3
  | (c, .inl d) => (barCell c, 0, d)
  | (c, .inr k) => (cell c k, 0, 0)

/-- Different names are different duties. -/
theorem tokOf_injective : Function.Injective tokOf := by
  rintro ⟨c, j⟩ ⟨c', j'⟩ h
  have hc : (tokOf (c, j)).1 = (tokOf (c', j')).1 := congrArg Prod.fst h
  have hd : (tokOf (c, j)).2.2 = (tokOf (c', j')).2.2 := congrArg (fun x => x.2.2) h
  cases j with
  | inl d => cases j' with
    | inl d' =>
      have := @kcell_injective (c, none) (c', none) hc
      rw [(Prod.mk.inj this).1, show d = d' from hd]
    | inr k' => exact absurd (@kcell_injective (c, none) (c', some k') hc) (by intro h; cases h)
  | inr k => cases j' with
    | inl d' => exact absurd (@kcell_injective (c, some k) (c', none) hc) (by intro h; cases h)
    | inr k' =>
      have := @kcell_injective (c, some k) (c', some k') hc
      rw [(Prod.mk.inj this).1, Option.some.inj (Prod.mk.inj this).2]

/-- All devices' duties. -/
def allToks : Finset (GSem nD τ sig × ℕ × Fin 3) := Finset.univ.map ⟨tokOf, tokOf_injective⟩

/-- What the launch starts from: the pipeline's positions and duties, and the exchange's. -/
def u₀ : UU :=
  (initOf (Pipeline.cells cfgs cellOf_inj) (Pipeline.launchToks cfgs cellOf_inj), initOf allCells allToks)

/-- The duties at device `c`'s own semaphores. -/
def toks (c : Dev nD) : sProp 𝕄 :=
  iprop((bigSep Finset.univ fun d : Fin 3 => dutyTok ER (barCell c) 0 d) ∗ bigSep Finset.univ fun k => dutyTok ER (cell c k) 0 0)

/-- What device `c` is dealt at first. -/
def G (c : Dev nD) : sProp 𝕄 :=
  iprop((bigSep Finset.univ fun k => roundState ER (sched X) (kcell (c, k)) 0)
    ∗ (bigSep Finset.univ fun k => iprop(atPos ER (kcell (c, k)) 0 ∅ 0 ∗ reached ER (kcell (c, k)) 0)) ∗ toks c)

omit [FloatOps F] in
/-- A conjunction over a device's semaphores: its barrier's part and the copies' parts. -/
theorem bigSep_opt (Φ : Option Key → sProp 𝕄) : bigSep Finset.univ Φ = iprop(Φ none ∗ bigSep Finset.univ fun k => Φ (some k)) := by
  rw [bigSep_univ_equiv (Equiv.optionEquivSumPUnit.{0, 0} Key).symm Φ, bigSep_univ_sum,
    bigSep_univ_eq_bigSepL [PUnit.unit] (by decide) (by decide) (fun b => Φ ((Equiv.optionEquivSumPUnit.{0, 0} Key).symm (.inr b)))]
  refine BI.equiv_iff.mp ⟨?_, ?_⟩
  · show iprop((bigSep Finset.univ fun k => Φ (some k)) ∗ Φ none) ⊢ _
    iintro ⟨H, H'⟩; isplitl [H']; · iexact H'
    iexact H
  · show _ ⊢ iprop((bigSep Finset.univ fun k => Φ (some k)) ∗ Φ none)
    iintro ⟨H, H'⟩; isplitl [H']; · iexact H'
    iexact H

omit [FloatOps F] in
/-- From what the launch starts from, every device gets its first part. -/
theorem fund_all : BI.own (ER (initOf allCells allToks)) ⊢ (|==> bigSep Finset.univ (G X) : sProp 𝕄) := by
  have hX (Φ : GSem nD τ sig → sProp 𝕄) : bigSep allCells Φ = bigSep Finset.univ fun c : Dev nD => bigSep Finset.univ fun k => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (sched X) allCells allToks) $$ HX with ⟨Hst, Hr, Hat, Htok⟩
  imodintro
  ihave Hst' := (Entails.of_eq (hX fun g => roundState ER (sched X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own semaphores at launch are the copies' semaphores at zero. -/
theorem ownSems0_eq (c : Dev nD) : (Pipeline.ownSems0 (Ix := Unit) (Name := ℕ) (U := UU) (Lvl := ℕ) (Val := Elt F) (τ := τ) osem c : sProp 𝕄)
    = bigSep Finset.univ fun k => semVal (cell c k) 0 := rfl
omit [FloatOps F] in
/-- The barrier semaphore is the only one that outlives the kernel. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
/-- A device's semaphores become the exchange's, one invariant each. -/
theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k => iprop(∃ κ : ℕ, cellInv ER (sched X) κ (kcell (c, k))))
          ∗ (bigSep Finset.univ fun k => iprop(atPos ER (kcell (c, k)) 0 ∅ 0 ∗ reached ER (kcell (c, k)) 0)) ∗ toks c) := by
  unfold G
  rw [ownSems0_eq, unscopedSems0_eq]
  iintro ⟨Hos, Hus, Hst, Hat, Htok⟩
  imod (show iprop((bigSep Finset.univ fun k => semVal (kcell (c, k)) 0) ∗ bigSep Finset.univ fun k => roundState ER (sched X) (kcell (c, k)) 0)
      ⊢ (|={Set.univ}=> bigSep Finset.univ fun k => iprop(∃ κ : ℕ, cellInv ER (sched X) κ (kcell (c, k))) : sProp 𝕄) from by
        rw [← bigSep_sep']
        exact (bigSep_mono fun k _ => (Rounds.body_intro ER (sched X) (kcell (c, k))).trans inv_alloc).trans (bigSep_fupd _ _)) $$ [Hos Hus Hst] with Hinv
  · isplitl [Hos Hus]
    · iapply (Entails.of_eq (bigSep_opt fun k => semVal (kcell (c, k)) 0).symm)
      isplitl [Hus]; · iexact Hus
      iexact Hos
    iexact Hst
  imodintro
  isplitl [Hinv]; · iexact Hinv
  isplitl [Hat]; · iexact Hat
  iexact Htok

omit [FloatOps F] in
/-- Conjuncts dealt along the axes: a family over devices, each member moved across its axis. -/
theorem deal {A : Type} [Fintype A] (f : A → Fin 3) (Φ : A → Dev nD → sProp 𝕄) :
    (bigSep Finset.univ fun c => bigSep Finset.univ fun a => Φ a c)
      = bigSep Finset.univ fun c => bigSep Finset.univ fun a => Φ a (across (f a) c) := by
  have hc (Ψ : A → Dev nD → sProp 𝕄) : (bigSep Finset.univ fun c => bigSep Finset.univ fun a => Ψ a c)
      = bigSep Finset.univ fun a => bigSep Finset.univ fun c => Ψ a c := by
    rw [← bigSep_univ_prod (fun ca : Dev nD × A => Ψ ca.2 ca.1), ← bigSep_univ_prod (fun ac : A × Dev nD => Ψ ac.1 ac.2),
      bigSep_univ_equiv (Equiv.prodComm A (Dev nD))]
    rfl
  rw [hc, hc fun a c => Φ a (across (f a) c)]
  exact bigSep_congr fun a _ => bigSep_univ_equiv (acrossE (f a)) (Φ a)

omit [FloatOps F] in
/-- The duties go from the device at whose semaphore they are to the device that pays them. -/
theorem toks_dealt : (bigSep Finset.univ fun c : Dev nD => (toks c : sProp 𝕄)) ⊢ bigSep Finset.univ fun c : Dev nD => payToks c := by
  unfold toks payToks barToks
  rw [bigSep_congr (s := Finset.univ) (fun (c : Dev nD) _ => by rw [bigSep_key]), bigSep_sep', bigSep_sep', bigSep_sep', bigSep_sep',
    deal (fun d : Fin 3 => d) (fun d c => (dutyTok ER (barCell c) 0 d : sProp 𝕄)),
    deal dir (fun t c => (dutyTok ER (cell c (t, true)) 0 0 : sProp 𝕄))]
  iintro ⟨H1, H2, H3⟩
  isplitl [H1]; · iexact H1
  isplitl [H3]; · iexact H3
  iexact H2

omit [FloatOps F] in
/-- Every device takes a copy of the exchange's invariants beside its own part. -/
theorem hand_out (K : Dev nD × Option Key → ℕ) : iprop(recs X K ∗ bigSep Finset.univ linear) ⊢ bigSep Finset.univ (given X) := by
  have h1 (c : Dev nD) : iprop(recs X K ∗ linear c) ⊢ given X c := by
    unfold given
    iintro H
    iexists K; iexact H
  have h : iprop((bigSep Finset.univ fun _ : Dev nD => recs X K) ∗ bigSep Finset.univ linear) ⊢ bigSep Finset.univ (given X) := by
    rw [← bigSep_sep']
    exact bigSep_mono fun c _ => h1 c
  iintro ⟨HR, Hl⟩
  ihave HR := (BI.bigSep_of_persistent (Finset.univ : Finset (Dev nD)) (recs X K)) $$ HR
  iapply h
  isplitl [HR]; · iexact HR
  iexact Hl

omit [FloatOps F] in
/-- With all devices' invariants known to every device and the duties dealt, every device has its part. -/
theorem regroup :
    (bigSep Finset.univ fun c : Dev nD => iprop((bigSep Finset.univ fun k => iprop(∃ κ : ℕ, cellInv ER (sched X) κ (kcell (c, k))))
          ∗ (bigSep Finset.univ fun k => iprop(atPos ER (kcell (c, k)) 0 ∅ 0 ∗ reached ER (kcell (c, k)) 0)) ∗ toks c) : sProp 𝕄)
      ⊢ bigSep Finset.univ (given X) := by
  rw [bigSep_sep', bigSep_sep', ← bigSep_univ_prod (fun ck : Dev nD × Option Key => iprop(∃ κ : ℕ, cellInv ER (sched X) κ (kcell ck))),
    bigSep_congr (s := Finset.univ) (fun (c : Dev nD) _ => bigSep_sep' Finset.univ (fun k : Option Key => (atPos ER (kcell (c, k)) 0 ∅ 0 : sProp 𝕄)) (fun k => reached ER (kcell (c, k)) 0)),
    bigSep_sep', ← bigSep_univ_prod (fun ck : Dev nD × Option Key => (reached ER (kcell ck) 0 : sProp 𝕄))]
  iintro ⟨HI, ⟨Hat, HR⟩, Htok⟩
  ihave HK := (BI.bigSep_exists_pi Finset.univ (fun (ck : Dev nD × Option Key) (κ : ℕ) => (cellInv ER (sched X) κ (kcell ck) : sProp 𝕄))) $$ HI
  icases HK with ⟨%K, HI⟩
  ihave Htk := (toks_dealt (F := F)) $$ Htok
  iapply (hand_out X K)
  isplitl [HI HR]
  · unfold recs; rw [bigSep_sep']
    isplitl [HI]; · iexact HI
    iexact HR
  · iapply ((Entails.of_eq (bigSep_sep' Finset.univ (fun c : Dev nD => bigSep Finset.univ fun k : Option Key => (atPos ER (kcell (c, k)) 0 ∅ 0 : sProp 𝕄)) payToks).symm).trans
      (bigSep_mono fun c _ => show _ ⊢ linear c from Entails.of_eq (by unfold linear; rw [bigSep_opt]; rfl)))
    isplitl [Hat]; · iexact Hat
    iexact Htk

omit [FloatOps F] in
/-- All devices' semaphores at once become the exchange's, and everything is dealt. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (given X) :=
  ((bigSep_mono fun c _ => core_alloc X c).trans (bigSep_fupd _ _)).trans (BI.fupd_mono (regroup X))

/-! ## The credit at launch -/

/-- Barriers are equal just if their devices are. -/
theorem bar_eq_iff {a b : Dev nD} : barCell a = barCell b ↔ a = b :=
  ⟨fun h => congrArg (fun g : GSem nD τ sig => g.1.1) h, fun h => h ▸ rfl⟩

/-- Copies' semaphores are equal just if their devices and names are. -/
theorem cell_eq_iff {a b : Dev nD} {k k' : Key} : cell a k = cell b k' ↔ a = b ∧ k = k' :=
  ⟨fun h => by
    have := @kcell_injective (a, some k) (b, some k') h
    exact ⟨(Prod.mk.inj this).1, Option.some.inj (Prod.mk.inj this).2⟩, fun h => by rw [h.1, h.2]⟩

/-- A copy's semaphore is no barrier. -/
theorem cell_ne_bar (a b : Dev nD) (k : Key) : cell a k ≠ barCell b := fun h => by
  have := congrArg Prod.snd h; cases this

/-- A step along an axis is undone by the same step. -/
theorem across_eq_iff (d : Fin 3) (a c : Dev nD) : across d a = c ↔ a = across d c :=
  ⟨fun h => by rw [← h, across_across], fun h => by rw [h, across_across]⟩

/-- What device `e` owes at device `c`'s barrier. -/
theorem owed_bar (e c : Dev nD) : owedB e 0 (barCell c) () = ∑ d : Fin 3, if e = across d c then 1 else 0 := by
  unfold owedB
  rw [Pi.add_apply, Finsupp.add_apply,
    show owed e 0 (barCell c) () = 0 from Nat.eq_zero_of_not_pos fun h => by obtain ⟨t, -, ht⟩ := owed_pos h; exact cell_ne_bar _ _ _ ht.symm,
    Nat.zero_add, Finset.sum_apply, Finsupp.finset_sum_apply, Finset.filter_true_of_mem fun _ _ => Nat.zero_le _]
  refine Finset.sum_congr rfl fun d _ => ?_
  rw [tallyAt_apply]
  refine if_congr ?_ rfl rfl
  rw [and_iff_left rfl, bar_eq_iff, eq_comm, across_eq_iff]

/-- What device `e` owes at the arrival of device `c`'s copy `t`. -/
theorem owed_cell (e c : Dev nD) (t : Xfer) : owedB e 0 (cell c (t, true)) () = if e = across (dir t) c then N else 0 := by
  unfold owedB owed
  rw [Pi.add_apply, Finsupp.add_apply, Finset.sum_apply, Finsupp.finset_sum_apply, Finset.sum_apply, Finsupp.finset_sum_apply,
    Finset.sum_eq_zero (s := Finset.univ.filter fun d : Fin 3 => 0 ≤ d.val) (fun d _ => by
      rw [tallyAt_apply, if_neg fun h => cell_ne_bar _ _ _ h.1]),
    Nat.add_zero, Finset.filter_true_of_mem fun _ _ => Nat.zero_le _,
    Finset.sum_eq_single t (fun u _ hu => by rw [tallyAt_apply, if_neg fun h => hu (Prod.mk.inj (cell_eq_iff.mp h.1).2).1.symm])
      (fun h => absurd (Finset.mem_univ t) h),
    tallyAt_apply]
  refine if_congr ?_ rfl rfl
  rw [and_iff_left rfl, cell_eq_iff, and_iff_left rfl, eq_comm, across_eq_iff]

/-- The devices together owe three units at each barrier. -/
theorem launch_bar (c : Dev nD) :
    tallyOn (barCell c) (launchCredit (Pipeline.owing fun d => owedB d 0) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun e _ => owed_bar e c, Finset.sum_comm,
    Finset.sum_congr rfl fun d _ => (Finset.sum_ite_eq' Finset.univ (across d c) fun _ => 1).trans (if_pos (Finset.mem_univ _))]
  rfl

/-- The devices together owe one copy's amount at each arrival. -/
theorem launch_cell (c : Dev nD) (t : Xfer) :
    tallyOn (cell c (t, true)) (launchCredit (Pipeline.owing fun d => owedB d 0) 0 (cell c (t, true))) = (tallyAt (cell c (t, true)) () N : CellTallies nD τ sig Unit) := by
  unfold tallyAt; refine congrArg _ (Finsupp.ext fun u => ?_); cases u
  rw [Pipeline.launchCredit_owing, Finsupp.single_eq_same, Finset.sum_congr rfl fun e _ => owed_cell e c t,
    Finset.sum_ite_eq' Finset.univ (across (dir t) c) fun _ => N, if_pos (Finset.mem_univ _)]

omit [FloatOps F] in
/-- A device's credit: its barrier's three units and every arrival. -/
theorem creds (c : Dev nD) :
    (Pipeline.launchCred (fun d => owedB d 0) c : sProp 𝕄)
      ⊢ iprop(cred (tallyAt (barCell c) () 3) ∗ bigSep Finset.univ fun t => cred (tallyAt (cell c (t, true)) () N)) := by
  unfold Pipeline.launchCred
  rw [bigSep_univ_at _ (SemLoc.reg barS), launch_bar]
  have hi : Function.Injective (fun t : Xfer => SemLoc.dma (sig := sig) (semOf (t, true))) := fun t u h => by
    have h : semOf (t, true) = semOf (u, true) := by injection h
    exact (Prod.mk.inj (semOf_inj h)).1
  refine sep_mono_right ?_
  rw [show bigSep (Finset.univ.erase (SemLoc.reg barS)) _ = iprop(bigSep (Finset.univ.map ⟨_, hi⟩) _ ∗ bigSep (Finset.univ.erase (SemLoc.reg barS) \ Finset.univ.map ⟨_, hi⟩) _)
      from bigSep_sdiff_split (fun s hs => by
        obtain ⟨t, -, rfl⟩ := Finset.mem_map.mp hs
        exact Finset.mem_erase.mpr ⟨(fun h => by cases h), Finset.mem_univ _⟩), bigSep_map]
  iintro ⟨H, -⟩
  iapply (Entails.of_eq (bigSep_congr (s := Finset.univ) fun t _ => congrArg cred (launch_cell c t)))
  iexact H

/-! ## The launch theorem's side conditions -/

omit [FloatOps F] in
/-- What the launch hands to a device contains what the device starts with. -/
theorem start_intro (c : Dev nD) :
    iprop(Pipeline.unscopedRestP Pipeline.Prefetch.none cfg0.spec c (fun b => m ((c : Thread nD τ).loc b)) ∗ levAts L lv
        ∗ Pipeline.launchCred (fun d => owedB d 0) c ∗ prngReg c (ρ c) ∗ given X c)
      ⊢ |={Set.univ}=> iprop(start X c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

/-- What a device starts with and its scratch buffers are what it holds before the body. -/
theorem phi0_intro (c : Dev nD) :
    iprop(start (arr0 m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ (arr0 m ρ) c from rfl, scopedRest0_eq]
  unfold Φ₀ scratch
  iintro ⟨Hs, -, Hr⟩
  isplitl [Hs]; · iexact Hs
  iexact Hr

/-- What a device holds after the body gives back every semaphore at zero and every scratch buffer. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  iintro ⟨Hr, Hk, HB⟩
  isplitl [HB]; · iexact HB
  isplitl [Hk]; · iexact Hk
  iexact Hr

/-- The pipeline's own waits are allowed, whatever a device owes before or after the body. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run of the whole program -/

/-- A window's array after the run. -/
def finalA (c : Dev nD) (w : Fin cfg0.W) : Buf (Elt F) ((cfg0.win w).arr.view.loc (c : Thread nD τ)) := (dats m ρ 0 c).arrAt w cfg0.N

set_option maxRecDepth 100000 in
/-- For any float values and from any memory, every weakly fair execution of the program on the sixteen devices ends, with
    each device's result array at the contents computed, its argument unchanged and every semaphore counter at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun c => owedB c 0) (howed₀ := fun _ => rfl) (howedN := fun _ => rfl)
    (L := L) (lv := lv) (hL := L_of_ne) (hwaits := waits m ρ)
    (G := G (arr0 m ρ)) (G' := given (arr0 m ρ)) (u₀ := u₀)
    (hu₀ := by
      unfold u₀
      iintro Hu
      ihave H := (ownU_pair _ _) $$ Hu
      icases H with ⟨HP, HX⟩
      imod (fund_all (arr0 m ρ)) $$ HX with HG
      imodintro
      isplitl [HP] <;> iassumption)
    (hglob := glob (arr0 m ρ))
    (hA := fun _ _ => rfl) (hpf := fun _ k => k.elim0)
    (X := start (arr0 m ρ)) (Y := fun c => unscopedSems0 c) (Z := fun _ => iprop(emp))
    (hX := start_intro m ρ (arr0 m ρ)) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument after the run is what it was. -/
theorem finalA_arg (c : Dev nD) : finalA m ρ c (0 : Fin 2) = (s₀ m ρ).mem (win0_0.arr.view.loc (c : Thread nD τ)) :=
  (dats (F := F) m ρ 0 c).arrAt_in (0 : Fin 2) rfl _

end Cert.Exchange

end
-- ==== Proof.Value.lean ====
/-
# What the result is

Read in exact arithmetic, every element of a device's result is its own element plus the element, at the same place, of the
device the rows came from — a device on the other side of axis `x`. The two are the two halves of the whole argument, so the
result is the reference's sum, on every device.
-/
module

public import proofs.«01_k».proof.Proof.Launch
public import proofs.«01_k».proof.Proof.Gen.ReferenceIdeal.Run
public import Idealize.ShloMosaic.Lib.Layout
public import Idealize.ShloMosaic.Lib.IdealHost
public import Idealize.ShloMosaic.Lib.Pointwise.Reduce
public import Idealize.ShloMosaic.Lib.Pipeline.ValueKit
public import Idealize.ShloMosaic.PureOps.Ideal

@[expose] public section

noncomputable section

namespace Cert.Exchange

open Cert.KernelIdeal Cert.KernelIdeal.Gen
open Idealize.ShloMosaic Idealize.ShloMosaic.TcCoe
open Idealize.SL Idealize.SL.Sem
open Xfer Slot

section Arrays

variable {F : FTy → Type} [FloatOps F]
variable (m : (ℓ : Loc nD τ sig) → Buf (Elt F) ℓ) (ρ : Dev nD → PrngReg)

/-- A window is its whole array: the block's index is the array's. -/
theorem emb_win (w : Fin 2) (y : S2048x512.Idx) :
    (match w with
      | 0 => ((win0_0.blk (0 : Fin 1)).view.emb y : S2048x512.Idx)
      | 1 => ((win0_1.blk (0 : Fin 1)).view.emb y : S2048x512.Idx)) = y := by
  match w with
  | 0 => blk_ext [show win0_0.index (0 : Fin 1) = ![0, 0] by decide +kernel]
  | 1 => blk_ext [show win0_1.index (0 : Fin 1) = ![0, 0] by decide +kernel]

/-- The kernel is given the argument's array. -/
theorem arr0_eq (c : Dev nD) : arr0 m ρ c = m ((c : Thread nD τ).loc main_arg0) :=
  funext fun y => congrArg (m ((c : Thread nD τ).loc main_arg0)) (emb_win 0 y)

/-- The result array after the run is the contents computed. -/
theorem finalA_out (c : Dev nD) : finalA m ρ c (1 : Fin 2) = outAll (arr0 m ρ) c :=
  (dats m ρ 0 c).arrAt_eq_of_covers (1 : Fin 2) (outAll (arr0 m ρ) c) (by decide +kernel) fun t _ y => by
    rw [show t = t0_0 from fin_N0 t]
    exact congrArg (outAll (arr0 m ρ) c) (emb_win 1 y).symm

/-- Every element of the result is computed from the same element of the device's own array and of another device's. -/
theorem out_elem (X : Arrays Ideal) (c : Dev nD) (i : S2048x512.Idx) :
    ∃ t : Xfer, outAll X c i = (X c i + X (origin c t) i : EReal) := by
  have hlt : (i 0).val / 64 < 32 := by have h := (i 0).isLt; change _ < 2048 at h; omega
  obtain ⟨t, ht⟩ : ∃ t, blk c t = ⟨(i 0).val / 64, hlt⟩ := (blkE c).surjective _
  let j : S64x512.Idx := fun a => match a with
    | ⟨0, _⟩ => ⟨(i 0).val % 64, Nat.mod_lt _ (by decide)⟩
    | ⟨1, _⟩ => ⟨(i 1).val, (i 1).isLt⟩
  have hi : (rowRect (blk c t)).emb j = i := by
    funext a; refine Fin.ext ?_
    rw [Rect.emb_apply]
    match a with
    | ⟨0, _⟩ =>
      show 64 * (blk c t).val + 1 * ((i 0).val % 64) = (i 0).val
      rw [ht]; show 64 * ((i 0).val / 64) + 1 * ((i 0).val % 64) = (i 0).val
      omega
    | ⟨1, _⟩ =>
      show 0 + 1 * (i 1).val = (i 1).val
      omega
  refine ⟨t, ?_⟩
  have h := outAll_block X c t j
  rw [hi] at h
  rw [h]
  have hv : outVal X c t j = (X c ((rowRect (blk c t)).emb j) + X (origin c t) ((rowRect (blk c t)).emb j) : EReal) := by
    unfold outVal; split <;> rfl
  rw [hv, hi]

/-- The rows a device receives are of a device on the other side of axis `x`. -/
theorem origin_side (c : Dev nD) (t : Xfer) : (origin c t).val / 8 = 1 - c.val / 8 := by revert c t; decide +kernel

end Arrays

/-! ## The reference -/

/-- The reference's result on the whole argument. -/
def refOut (v : Cert.ReferenceIdeal.S4096x512.Idx → Elt Ideal .bf16) : Cert.ReferenceIdeal.S2048x512.Idx → Elt Ideal .bf16 :=
  truncf (F := Ideal) .bf16 (Host.reduceAdd (extf .f32 (shapeCast _ v Cert.ReferenceIdeal.Gen.facts.shapeCasts_S4096x512_S2x2048x512) Cert.ReferenceIdeal.Gen.facts.bitsLt_bf16_f32)
    (constant Cert.ReferenceIdeal.S_ .f32 0x00000000#32) Cert.ReferenceIdeal.Gen.facts.reducesTo_S2x2048x512_S2048x512_d0 Cert.ReferenceIdeal.Gen.facts.h_S_)
    Cert.ReferenceIdeal.Gen.facts.bitsLt_bf16_f32

/-- Where row `i` of half `k` is in the whole argument. -/
def halfIdx (k : Fin 2) (i : S2048x512.Idx) : Cert.ReferenceIdeal.S4096x512.Idx := fun a => match a with
  | ⟨0, _⟩ => ⟨k.val * 2048 + (i 0).val, by have h := (i 0).isLt; change _ < 2048 at h; show _ < 4096; omega⟩
  | ⟨1, _⟩ => ⟨(i 1).val, (i 1).isLt⟩

/-- An element of the reference's result is the sum of the two halves' elements. -/
theorem refOut_elem (v : Cert.ReferenceIdeal.S4096x512.Idx → Elt Ideal .bf16) (i : S2048x512.Idx) :
    refOut v i = (v (halfIdx 0 i) + v (halfIdx 1 i) : EReal) := by
  have hc (k : Fin 2) (a : Fin 2048) (b : Fin 512) (ha : a.val = (i 0).val) (hb : b.val = (i 1).val) :
      shapeCast Cert.ReferenceIdeal.S2x2048x512 v Cert.ReferenceIdeal.Gen.facts.shapeCasts_S4096x512_S2x2048x512 (ix3 k a b) = v (halfIdx k i) := by
    refine shapeCast_apply v _ _ _ ?_
    rw [Shape.rowMajor_val_two, Shape.rowMajor_val_three]
    show (k.val * 2048 + (i 0).val) * 512 + (i 1).val = (k.val * 2048 + a.val) * 512 + b.val
    rw [ha, hb]
  unfold refOut
  show Host.reduceAdd (F := Ideal) _ _ _ _ i = _
  rw [ValueIdx.hostReduceAdd_apply, Ideal.hostReduceAdd_r3_a0, Fin.sum_univ_two]
  refine (congrArg₂ (fun x y : EReal => Ideal.ofBits .f32 0x00000000#32 + (x + y)) (hc 0 (i 0) (i 1) rfl rfl) (hc 1 (i 0) (i 1) rfl rfl)).trans ?_
  show Ideal.ofBits .f32 0x00000000#32 + (v (halfIdx 0 i) + v (halfIdx 1 i) : EReal) = _
  rw [Ideal.ofBits_zero_f32, zero_add]

/-- The half of the whole argument a device holds. -/
theorem half_elem (c : Dev nD) (v : Cert.ReferenceIdeal.S4096x512.Idx → Elt Ideal .bf16) (k : Fin 2) (hk : c.val / 8 = k.val) (i : S2048x512.Idx) :
    Layout.blockN ⟨2, ![2048, 512]⟩ ⟨2, ![4096, 512]⟩ (Layout.meshBlock [2, 2, 4] ![[0], []] c) v (by decide) i = v (halfIdx k i) := by
  have h0 : ∀ c : Fin 16, (Layout.meshBlock [2, 2, 4] ![[0], []] c (by decide) (0 : Fin 2)).val = c.val / 8 := by decide +kernel
  have h1 : ∀ c : Fin 16, (Layout.meshBlock [2, 2, 4] ![[0], []] c (by decide) (1 : Fin 2)).val = 0 := by decide +kernel
  rw [Layout.blockN_apply]
  refine congrArg v (funext fun a => Fin.ext ?_)
  rw [Layout.TilesN.idx_val]
  match a with
  | ⟨0, _⟩ =>
    show (Layout.meshBlock [2, 2, 4] ![[0], []] c (by decide) (0 : Fin 2)).val * 2048 + (i 0).val = k.val * 2048 + (i 0).val
    rw [h0 c, hk]
  | ⟨1, _⟩ =>
    show (Layout.meshBlock [2, 2, 4] ![[0], []] c (by decide) (1 : Fin 2)).val * 512 + (i 1).val = (i 1).val
    rw [h1 c, Nat.zero_mul, Nat.zero_add]

/-- Where every device holds its half of the whole argument, every device's result is the reference's. -/
theorem out_eq_ref (X : Arrays Ideal) (v : Cert.ReferenceIdeal.S4096x512.Idx → Elt Ideal .bf16)
    (hX : ∀ c : Dev nD, X c = Layout.blockN ⟨2, ![2048, 512]⟩ ⟨2, ![4096, 512]⟩ (Layout.meshBlock [2, 2, 4] ![[0], []] c) v) (c : Dev nD) :
    outAll X c = refOut v := by
  funext i
  obtain ⟨t, ht⟩ := out_elem X c i
  have hs := origin_side c t
  have hc : c.val / 8 < 2 := by have h := c.isLt; change _ < 16 at h; omega
  rw [ht, refOut_elem, hX c, hX (origin c t)]
  rcases Nat.lt_succ_iff_lt_or_eq.mp hc with h | h
  · have h : c.val / 8 = 0 := by omega
    rw [half_elem c v 0 h, half_elem (origin c t) v 1 (by rw [hs, h]; rfl)]
  · rw [half_elem c v 1 h, half_elem (origin c t) v 0 (by rw [hs, h]; rfl), add_comm]

end Cert.Exchange

end
-- ==== Proof.lean ====
/-
The claims of this certificate: the kernel on sixteen devices, as it is compiled and read in exact arithmetic, and the
reference all run to the end with every semaphore at zero and their arguments unchanged; and in exact arithmetic every
device's result is the reference's.

The kernel's protocol and its run are in `Proof/Sched.lean`, `Proof/State.lean` and `Proof/Run.lean`, the run of all devices
in `Proof/Launch.lean`, the result's value in `Proof/Value.lean`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value
public import Idealize.ShloMosaic.Lib.Quiescent

@[expose] public section

noncomputable section

namespace Cert.Proof

open Idealize.ShloMosaic Idealize.SL.Sem

section

local instance : Cert.Kernel.Facts := Cert.Kernel.Gen.facts
local instance : Cert.KernelIdeal.Facts := Cert.KernelIdeal.Gen.facts
local instance : Cert.ReferenceIdeal.Facts := Cert.ReferenceIdeal.Gen.facts

/-- For any float values the kernel's text runs to the end on all sixteen devices; arguments unchanged, semaphores at zero. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run (Cert.KernelIdeal.defs (F := F)) _ _).mono (fun _ h => ⟨fun c => (h.1 c (0 : Fin 2)).trans (Cert.Exchange.finalA_arg m ρ c), h.2⟩)
    (Cert.Exchange.run_main m ρ)

section

variable {F : FTy → Type} [FloatOps F]

/-- The two printed kernels' bodies are the same text. -/
theorem body_same : Cert.Kernel.cc0_body (F := F) = Cert.KernelIdeal.cc0_body (F := F) := rfl

/-- The two kernels' tables of bodies are the same. -/
theorem table_same : Cert.Kernel.defs₀ (F := F) = Cert.KernelIdeal.defs₀ (F := F) := by
  unfold Cert.Kernel.defs₀ Cert.KernelIdeal.defs₀
  refine congrArg _ (funext fun ℓ => funext fun x => ?_)
  match ℓ, x with
  | 0, (t, s) =>
    show Cert.Kernel.cc0_body (F := F) _ _ _ _ _ _ _ _ _ _ _ _ _ _ _ _ _ _ _ _ _ _ _ _
      = Cert.KernelIdeal.cc0_body (F := F) _ _ _ _ _ _ _ _ _ _ _ _ _ _ _ _ _ _ _ _ _ _ _ _
    rw [body_same]

/-- The two programs' tables of definitions are the same. -/
theorem defs_same : Cert.Kernel.defs (F := F) = Cert.KernelIdeal.defs (F := F) := by
  unfold Cert.Kernel.defs Cert.KernelIdeal.defs
  exact congrArg (Pipeline.defs (Cert.KernelIdeal.pcfgs (F := F))) table_same

end

/-- The kernel, as it is compiled, runs to the end on all sixteen devices; arguments unchanged, semaphores at zero. -/
theorem frame_kernel : Cert.quiescent_Kernel := fun m ρ _ => by
  have h := frame_any (F := Bits) m ρ
  rw [← defs_same] at h
  exact h

/-- So does the kernel in exact arithmetic. -/
theorem frame_ideal : Cert.quiescent_KernelIdeal := fun m ρ _ => frame_any (F := Ideal) m ρ

/-- The reference runs to the end, its argument unchanged; it has no semaphore. -/
theorem frame_reference : Cert.quiescent_ReferenceIdeal := fun m ρ _ =>
  (θ_run _ _ _).mono (fun r h => ⟨fun c => (h c).2, sem_eq_zero_of_no_sems (by decide) r.2⟩)
    (Cert.ReferenceIdeal.Value.run (F := Ideal) m ρ)

/-- In exact arithmetic, from the devices' halves of one whole argument, every device's result is the reference's on it. -/
theorem value : Cert.algebraic_KernelIdeal_ReferenceIdeal := fun m ρ m' ρ' _ hm => by
  refine ⟨Cert.Exchange.refOut (m' (((0 : Dev Cert.ReferenceIdeal.nD).tc : Thread Cert.ReferenceIdeal.nD Cert.ReferenceIdeal.τ).loc Cert.ReferenceIdeal.main_arg0)), ?_, ?_⟩
  · refine (θ_run (Cert.KernelIdeal.defs (F := Ideal)) _ _).mono (fun r h c => ⟨?_, ?_⟩) (Cert.Exchange.run_main (F := Ideal) m ρ)
    · refine (h.1 c (1 : Fin 2)).trans ((Cert.Exchange.finalA_out m ρ c).trans ?_)
      exact Cert.Exchange.out_eq_ref _ _ (fun d => (Cert.Exchange.arr0_eq m ρ d).trans (hm d)) c
    · exact (h.1 c (0 : Fin 2)).trans (Cert.Exchange.finalA_arg m ρ c)
  · exact (θ_run _ _ _).mono (fun r h => h 0) (Cert.ReferenceIdeal.Value.run (F := Ideal) m' ρ')

end

/-- All the claims, under the programs' side conditions. -/
theorem claim : Cert.Claim :=
  ⟨Cert.Kernel.Gen.facts, Cert.KernelIdeal.Gen.facts, Cert.ReferenceIdeal.Gen.facts,
    frame_kernel, frame_ideal, frame_reference, trivial, value⟩

end Cert.Proof

end
